-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_two_clear_KernelIdeal [hPre_top_two_clear_KernelIdeal : Cert.Pre_top_two_clear_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_top_two_clear_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_two_clear_ReferenceIdeal [hPre_top_two_clear_ReferenceIdeal : Cert.Pre_top_two_clear_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_two_clear_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_top_two_clear_KernelIdeal [hKernelIdeal : Cert.KernelIdeal.Facts] [hPre_top_two_clear_KernelIdeal : Cert.Pre_top_two_clear_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_two_clear_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_top_two_clear_ReferenceIdeal [hReferenceIdeal : Cert.ReferenceIdeal.Facts] [hPre_top_two_clear_ReferenceIdeal : Cert.Pre_top_two_clear_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_two_clear_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_top_two_clear_KernelIdeal [hKernelIdeal : Cert.KernelIdeal.Facts] [hReferenceIdeal : Cert.ReferenceIdeal.Facts] [hPre_top_two_clear_KernelIdeal : Cert.Pre_top_two_clear_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_two_clear_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.blockN ⟨2, ![256, 512]⟩ ⟨2, ![512, 512]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v138) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_top_two_clear_KernelIdeal : Cert.Pre_top_two_clear_KernelIdeal.Facts) (hPre_top_two_clear_ReferenceIdeal : Cert.Pre_top_two_clear_ReferenceIdeal.Facts),
    quiescent_Kernel (hKernel := hKernel)
    ∧ quiescent_KernelIdeal (hKernelIdeal := hKernelIdeal)
    ∧ quiescent_KernelIdeal_pre_top_two_clear_KernelIdeal (hKernelIdeal := hKernelIdeal) (hPre_top_two_clear_KernelIdeal := hPre_top_two_clear_KernelIdeal)
    ∧ quiescent_ReferenceIdeal (hReferenceIdeal := hReferenceIdeal)
    ∧ quiescent_ReferenceIdeal_pre_top_two_clear_ReferenceIdeal (hReferenceIdeal := hReferenceIdeal) (hPre_top_two_clear_ReferenceIdeal := hPre_top_two_clear_ReferenceIdeal)
    ∧ preserves_Kernel_KernelIdeal
    ∧ algebraic_KernelIdeal_ReferenceIdeal_pre_top_two_clear_KernelIdeal (hKernelIdeal := hKernelIdeal) (hReferenceIdeal := hReferenceIdeal) (hPre_top_two_clear_KernelIdeal := hPre_top_two_clear_KernelIdeal)
-- ==== Pre_top_two_clear_KernelIdeal.lean ====
abbrev S256x512 : Shape := ⟨2, ![256, 512]⟩
abbrev S512x4 : Shape := ⟨2, ![512, 4]⟩
abbrev S2x512x1024 : Shape := ⟨3, ![2, 512, 1024]⟩
abbrev S2x1024x512 : Shape := ⟨3, ![2, 1024, 512]⟩
abbrev S256x4 : Shape := ⟨2, ![256, 4]⟩
abbrev S256x3 : Shape := ⟨2, ![256, 3]⟩
abbrev S256x1 : Shape := ⟨2, ![256, 1]⟩
abbrev S256 : Shape := ⟨1, ![256]⟩
abbrev S_ : Shape := ⟨0, ![]⟩

class Facts : Prop where
  sliceFits_S256x4_S256x3 : S256x4.Slices (fun _ => 0) S256x3
  slices_S256x3_S256x1_0_0 : S256x3.Slices ![0, 0] S256x1
  shapeCasts_S256x1_S256 : S256x1.ShapeCasts S256
  bcast_S_S256 : S_.BroadcastsInDim S256 (![] : Fin 0 → Fin S256.rank)
  slices_S256x3_S256x1_0_1 : S256x3.Slices ![0, 1] S256x1
  slices_S256x3_S256x1_0_2 : S256x3.Slices ![0, 2] S256x1
  dot_S256x512_S512x4_S256x4_1_0_0_1_n_n_wf : DotDims.WF S256x512 S512x4 S256x4 [1] [0] [0] [1] [] []

variable [Facts]

def dot_S256x512_S512x4_S256x4_1_0_0_1_n_n : DotDims S256x512 S512x4 S256x4 where
  lhsContracting := [1]
  rhsContracting := [0]
  lhsNonContracting := [0]
  rhsNonContracting := [1]
  lhsBatch := []
  rhsBatch := []
  wf := dot_S256x512_S512x4_S256x4_1_0_0_1_n_n_wf
def fn {F : FTy → Type} [FloatOps F] (main_arg0 : FVec F S256x512 .f32) (main_arg1 : FVec F S512x4 .f32) (main_arg2 : FVec F S2x512x1024 .f32) (main_arg3 : FVec F S2x1024x512 .f32) : IVec S256 1 :=
  let main_v0 : FVec F S256x4 .f32 := (fun l r => Host.dotGeneral dot_S256x512_S512x4_S256x4_1_0_0_1_n_n none l r) main_arg0 main_arg1
  let main_values : FVec F S256x3 .f32 := (fun x => (Host.topK S256x3 1 (FloatOps.cmpfTotal .gt) x sliceFits_S256x4_S256x3).1) main_v0
  let main_indices : IVec S256x3 32 := (fun x => (Host.topK S256x3 1 (FloatOps.cmpfTotal .gt) x sliceFits_S256x4_S256x3).2) main_v0
  let main_v1 : FVec F S256x1 .f32 := (extractStridedSlice S256x1 ![0, 0] · slices_S256x3_S256x1_0_0) main_values
  let main_v2 : FVec F S256 .f32 := shapeCast S256 main_v1 shapeCasts_S256x1_S256
  let main_cst : FVec F S_ .f32 := constant S_ .f32 0x7F800000#32
  let main_v3 : FVec F S256 .f32 := broadcastInDim S256 ![] bcast_S_S256 main_cst
  let main_v4 : IVec S256 1 := cmpf .olt main_v2 main_v3
  let main_v5 : FVec F S256x1 .f32 := (extractStridedSlice S256x1 ![0, 0] · slices_S256x3_S256x1_0_0) main_values
  let main_v6 : FVec F S256 .f32 := shapeCast S256 main_v5 shapeCasts_S256x1_S256
  let main_v7 : FVec F S256x1 .f32 := (extractStridedSlice S256x1 ![0, 1] · slices_S256x3_S256x1_0_1) main_values
  let main_v8 : FVec F S256 .f32 := shapeCast S256 main_v7 shapeCasts_S256x1_S256
  let main_v9 : IVec S256 1 := cmpf .ogt main_v6 main_v8
  let main_v10 : IVec S256 1 := andi main_v4 main_v9
  let main_v11 : FVec F S256x1 .f32 := (extractStridedSlice S256x1 ![0, 1] · slices_S256x3_S256x1_0_1) main_values
  let main_v12 : FVec F S256 .f32 := shapeCast S256 main_v11 shapeCasts_S256x1_S256
  let main_v13 : FVec F S256x1 .f32 := (extractStridedSlice S256x1 ![0, 2] · slices_S256x3_S256x1_0_2) main_values
  let main_v14 : FVec F S256 .f32 := shapeCast S256 main_v13 shapeCasts_S256x1_S256
  let main_v15 : IVec S256 1 := cmpf .ogt main_v12 main_v14
  let main_v16 : IVec S256 1 := andi main_v10 main_v15
  main_v16
-- ==== Pre_top_two_clear_ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x3 : Shape := ⟨2, ![512, 3]⟩
abbrev S512x1 : Shape := ⟨2, ![512, 1]⟩
abbrev S512 : Shape := ⟨1, ![512]⟩
abbrev S_ : Shape := ⟨0, ![]⟩

class Facts : Prop where
  sliceFits_S512x4_S512x3 : S512x4.Slices (fun _ => 0) S512x3
  slices_S512x3_S512x1_0_0 : S512x3.Slices ![0, 0] S512x1
  shapeCasts_S512x1_S512 : S512x1.ShapeCasts S512
  bcast_S_S512 : S_.BroadcastsInDim S512 (![] : Fin 0 → Fin S512.rank)
  slices_S512x3_S512x1_0_1 : S512x3.Slices ![0, 1] S512x1
  slices_S512x3_S512x1_0_2 : S512x3.Slices ![0, 2] S512x1
  dot_S512x512_S512x4_S512x4_1_0_0_1_n_n_wf : DotDims.WF S512x512 S512x4 S512x4 [1] [0] [0] [1] [] []

variable [Facts]

def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def fn {F : FTy → Type} [FloatOps F] (main_arg0 : FVec F S512x512 .f32) (main_arg1 : FVec F S512x4 .f32) (main_arg2 : FVec F S4x512x1024 .f32) (main_arg3 : FVec F S4x1024x512 .f32) : IVec S512 1 :=
  let main_v0 : FVec F S512x4 .f32 := (fun l r => Host.dotGeneral dot_S512x512_S512x4_S512x4_1_0_0_1_n_n none l r) main_arg0 main_arg1
  let main_values : FVec F S512x3 .f32 := (fun x => (Host.topK S512x3 1 (FloatOps.cmpfTotal .gt) x sliceFits_S512x4_S512x3).1) main_v0
  let main_indices : IVec S512x3 32 := (fun x => (Host.topK S512x3 1 (FloatOps.cmpfTotal .gt) x sliceFits_S512x4_S512x3).2) main_v0
  let main_v1 : FVec F S512x1 .f32 := (extractStridedSlice S512x1 ![0, 0] · slices_S512x3_S512x1_0_0) main_values
  let main_v2 : FVec F S512 .f32 := shapeCast S512 main_v1 shapeCasts_S512x1_S512
  let main_cst : FVec F S_ .f32 := constant S_ .f32 0x7F800000#32
  let main_v3 : FVec F S512 .f32 := broadcastInDim S512 ![] bcast_S_S512 main_cst
  let main_v4 : IVec S512 1 := cmpf .olt main_v2 main_v3
  let main_v5 : FVec F S512x1 .f32 := (extractStridedSlice S512x1 ![0, 0] · slices_S512x3_S512x1_0_0) main_values
  let main_v6 : FVec F S512 .f32 := shapeCast S512 main_v5 shapeCasts_S512x1_S512
  let main_v7 : FVec F S512x1 .f32 := (extractStridedSlice S512x1 ![0, 1] · slices_S512x3_S512x1_0_1) main_values
  let main_v8 : FVec F S512 .f32 := shapeCast S512 main_v7 shapeCasts_S512x1_S512
  let main_v9 : IVec S512 1 := cmpf .ogt main_v6 main_v8
  let main_v10 : IVec S512 1 := andi main_v4 main_v9
  let main_v11 : FVec F S512x1 .f32 := (extractStridedSlice S512x1 ![0, 1] · slices_S512x3_S512x1_0_1) main_values
  let main_v12 : FVec F S512 .f32 := shapeCast S512 main_v11 shapeCasts_S512x1_S512
  let main_v13 : FVec F S512x1 .f32 := (extractStridedSlice S512x1 ![0, 2] · slices_S512x3_S512x1_0_2) main_values
  let main_v14 : FVec F S512 .f32 := shapeCast S512 main_v13 shapeCasts_S512x1_S512
  let main_v15 : IVec S512 1 := cmpf .ogt main_v12 main_v14
  let main_v16 : IVec S512 1 := andi main_v10 main_v15
  main_v16
-- ==== Kernel.lean ====
abbrev S256x512 : Shape := ⟨2, ![256, 512]⟩
abbrev S512x4 : Shape := ⟨2, ![512, 4]⟩
abbrev S2x512x1024 : Shape := ⟨3, ![2, 512, 1024]⟩
abbrev S2x1024x512 : Shape := ⟨3, ![2, 1024, 512]⟩
abbrev S_ : Shape := ⟨0, ![]⟩
abbrev S512x2 : Shape := ⟨2, ![512, 2]⟩
abbrev S4 : Shape := ⟨1, ![4]⟩
abbrev S3 : Shape := ⟨1, ![3]⟩
abbrev S2 : Shape := ⟨1, ![2]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x512 : Shape := ⟨2, ![128, 512]⟩
abbrev S256x1024 : Shape := ⟨2, ![256, 1024]⟩
abbrev S128x2 : Shape := ⟨2, ![128, 2]⟩
abbrev S128x4 : Shape := ⟨2, ![128, 4]⟩
abbrev S128 : Shape := ⟨1, ![128]⟩
abbrev S128x1 : Shape := ⟨2, ![128, 1]⟩
abbrev S128x1024 : Shape := ⟨2, ![128, 1024]⟩
abbrev S256x2 : Shape := ⟨2, ![256, 2]⟩
abbrev S256x4 : Shape := ⟨2, ![256, 4]⟩
abbrev S256 : Shape := ⟨1, ![256]⟩
abbrev S256x1 : Shape := ⟨2, ![256, 1]⟩

abbrev nBuf : Space → Nat
  | .hbm => 20
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S512x4, .f32⟩
  | .hbm, ⟨2, _⟩ => ⟨S2x512x1024, .f32⟩
  | .hbm, ⟨3, _⟩ => ⟨S2x1024x512, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S512x2, .f32⟩
  | .hbm, ⟨19, _⟩ => ⟨S256x512, .f32⟩
  | .local _ .vmem, ⟨0, _⟩ => ⟨S512x2, .f32⟩
  | .local _ .vmem, ⟨1, _⟩ => ⟨S256x512, .f32⟩
  | .local _ .vmem, ⟨2, _⟩ => ⟨S256x512, .f32⟩
  | .local _ .vmem, ⟨3, _⟩ => ⟨S2x512x1024, .f32⟩
  | .local _ .vmem, ⟨4, _⟩ => ⟨S2x1024x512, .f32⟩
  | .local _ .vmem, ⟨5, _⟩ => ⟨S512x2, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_c_4 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_31 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_30 : BitVec 32 := 2#32
  let v32 : BitVec 32 := Scalar.muli v6 c2_i32_30
  let v33 : BitVec 32 := Scalar.addi c0_i32_31 v32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_32 : BitVec 32 := 1#32
  let v34 : BitVec 32 := Scalar.muli v5 c1_i32_32
  let v35 : BitVec 32 := Scalar.addi v33 v34
  v35.toNat
def k0_dev2 (d0 : Dev nD) : Nat :=
  let c0_i32_40 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_39 : BitVec 32 := 2#32
  let v41 : BitVec 32 := Scalar.muli v6 c2_i32_39
  let v42 : BitVec 32 := Scalar.addi c0_i32_40 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_41 : BitVec 32 := 1#32
  let v43 : BitVec 32 := Scalar.muli v5 c1_i32_41
  let v44 : BitVec 32 := Scalar.addi v42 v43
  v44.toNat
def k0_dev3 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v51 : BitVec 32 := Scalar.muli v6 c2_i32_48
  let v52 : BitVec 32 := Scalar.addi c0_i32_49 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v53 : BitVec 32 := Scalar.muli v5 c1_i32_50
  let v54 : BitVec 32 := Scalar.addi v52 v53
  v54.toNat
def k0_dev4 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v61 : BitVec 32 := Scalar.muli v6 c2_i32_56
  let v62 : BitVec 32 := Scalar.addi c0_i32_57 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v63 : BitVec 32 := Scalar.muli v5 c1_i32_58
  let v64 : BitVec 32 := Scalar.addi v62 v63
  v64.toNat
def k0_dev5 (d0 : Dev nD) : Nat :=
  let c0_i32_158 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_157 : BitVec 32 := 2#32
  let v185 : BitVec 32 := Scalar.muli v6 c2_i32_157
  let v186 : BitVec 32 := Scalar.addi c0_i32_158 v185
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_159 : BitVec 32 := 1#32
  let v187 : BitVec 32 := Scalar.muli v5 c1_i32_159
  let v188 : BitVec 32 := Scalar.addi v186 v187
  v188.toNat
def k0_dev6 (d0 : Dev nD) : Nat :=
  let c0_i32_216 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_215 : BitVec 32 := 2#32
  let v268 : BitVec 32 := Scalar.muli v6 c2_i32_215
  let v269 : BitVec 32 := Scalar.addi c0_i32_216 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_217 : BitVec 32 := 1#32
  let v270 : BitVec 32 := Scalar.muli v5 c1_i32_217
  let v271 : BitVec 32 := Scalar.addi v269 v270
  v271.toNat
abbrev stage0_0 : Fin 1 → Memref sig .tc .vmem S512x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 196
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x2, .f32⟩
  | 6 => ⟨S512x2, .i32⟩
  | 7 => ⟨S_, .f32⟩
  | 8 => ⟨S512, .f32⟩
  | 9 => ⟨S512x1, .f32⟩
  | 10 => ⟨S512x2, .f32⟩
  | 11 => ⟨S512x2, .f32⟩
  | 12 => ⟨S512x2, .f32⟩
  | 13 => ⟨S_, .f32⟩
  | 14 => ⟨S512, .f32⟩
  | 15 => ⟨S512x1, .f32⟩
  | 16 => ⟨S512x2, .f32⟩
  | 17 => ⟨S512x2, .f32⟩
  | 18 => ⟨S_, .f32⟩
  | 19 => ⟨S512x512, .f32⟩
  | 20 => ⟨S512x1, .i32⟩
  | 21 => ⟨S_, .i32⟩
  | 22 => ⟨S512x1, .i32⟩
  | 23 => ⟨S512x1, .i1⟩
  | 24 => ⟨S1x512x1024, .f32⟩
  | 25 => ⟨S512x1024, .f32⟩
  | 26 => ⟨S512x1024, .f32⟩
  | 27 => ⟨S_, .f32⟩
  | 28 => ⟨S512x1024, .f32⟩
  | 29 => ⟨S512x1024, .f32⟩
  | 30 => ⟨S1x1024x512, .f32⟩
  | 31 => ⟨S1024x512, .f32⟩
  | 32 => ⟨S512x512, .f32⟩
  | 33 => ⟨S512x1, .f32⟩
  | 34 => ⟨S512x512, .f32⟩
  | 35 => ⟨S512x512, .f32⟩
  | 36 => ⟨S_, .f32⟩
  | 37 => ⟨S_, .f32⟩
  | 38 => ⟨S512x512, .i1⟩
  | 39 => ⟨S512x512, .f32⟩
  | 40 => ⟨S512x512, .f32⟩
  | 41 => ⟨S512x512, .f32⟩
  | 42 => ⟨S512x1, .i32⟩
  | 43 => ⟨S_, .i32⟩
  | 44 => ⟨S512x1, .i32⟩
  | 45 => ⟨S512x1, .i1⟩
  | 46 => ⟨S1x512x1024, .f32⟩
  | 47 => ⟨S512x1024, .f32⟩
  | 48 => ⟨S512x1024, .f32⟩
  | 49 => ⟨S_, .f32⟩
  | 50 => ⟨S512x1024, .f32⟩
  | 51 => ⟨S512x1024, .f32⟩
  | 52 => ⟨S1x1024x512, .f32⟩
  | 53 => ⟨S1024x512, .f32⟩
  | 54 => ⟨S512x512, .f32⟩
  | 55 => ⟨S512x1, .f32⟩
  | 56 => ⟨S512x512, .f32⟩
  | 57 => ⟨S512x512, .f32⟩
  | 58 => ⟨S_, .f32⟩
  | 59 => ⟨S_, .f32⟩
  | 60 => ⟨S512x512, .i1⟩
  | 61 => ⟨S512x512, .f32⟩
  | 62 => ⟨S512x512, .f32⟩
  | 63 => ⟨S512x512, .f32⟩
  | 64 => ⟨S512x1, .i32⟩
  | 65 => ⟨S_, .i32⟩
  | 66 => ⟨S512x1, .i32⟩
  | 67 => ⟨S512x1, .i1⟩
  | 68 => ⟨S1x512x1024, .f32⟩
  | 69 => ⟨S512x1024, .f32⟩
  | 70 => ⟨S512x1024, .f32⟩
  | 71 => ⟨S_, .f32⟩
  | 72 => ⟨S512x1024, .f32⟩
  | 73 => ⟨S512x1024, .f32⟩
  | 74 => ⟨S1x1024x512, .f32⟩
  | 75 => ⟨S1024x512, .f32⟩
  | 76 => ⟨S512x512, .f32⟩
  | 77 => ⟨S512x1, .f32⟩
  | 78 => ⟨S512x512, .f32⟩
  | 79 => ⟨S512x512, .f32⟩
  | 80 => ⟨S_, .f32⟩
  | 81 => ⟨S_, .f32⟩
  | 82 => ⟨S512x512, .i1⟩
  | 83 => ⟨S512x512, .f32⟩
  | 84 => ⟨S512x512, .f32⟩
  | 85 => ⟨S512x512, .f32⟩
  | 86 => ⟨S512x1, .i32⟩
  | 87 => ⟨S_, .i32⟩
  | 88 => ⟨S512x1, .i32⟩
  | 89 => ⟨S512x1, .i1⟩
  | 90 => ⟨S1x512x1024, .f32⟩
  | 91 => ⟨S512x1024, .f32⟩
  | 92 => ⟨S512x1024, .f32⟩
  | 93 => ⟨S_, .f32⟩
  | 94 => ⟨S512x1024, .f32⟩
  | 95 => ⟨S512x1024, .f32⟩
  | 96 => ⟨S1x1024x512, .f32⟩
  | 97 => ⟨S1024x512, .f32⟩
  | 98 => ⟨S512x512, .f32⟩
  | 99 => ⟨S512x1, .f32⟩
  | 100 => ⟨S512x512, .f32⟩
  | 101 => ⟨S512x512, .f32⟩
  | 102 => ⟨S_, .f32⟩
  | 103 => ⟨S_, .f32⟩
  | 104 => ⟨S512x512, .i1⟩
  | 105 => ⟨S512x512, .f32⟩
  | 106 => ⟨S512x512, .f32⟩
  | 107 => ⟨S512x512, .f32⟩
  | 108 => ⟨S512x1, .i32⟩
  | 109 => ⟨S_, .i32⟩
  | 110 => ⟨S512x1, .i32⟩
  | 111 => ⟨S512x1, .i1⟩
  | 112 => ⟨S1x512x1024, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S1x1024x512, .f32⟩
  | 119 => ⟨S1024x512, .f32⟩
  | 120 => ⟨S512x512, .f32⟩
  | 121 => ⟨S512x1, .f32⟩
  | 122 => ⟨S512x512, .f32⟩
  | 123 => ⟨S512x512, .f32⟩
  | 124 => ⟨S_, .f32⟩
  | 125 => ⟨S_, .f32⟩
  | 126 => ⟨S512x512, .i1⟩
  | 127 => ⟨S512x512, .f32⟩
  | _ => ⟨S512x512, .f32⟩

abbrev hbmTy0_1 (i : Nat) : BufTy := match i % 128 with
  | 0 => ⟨S512x512, .f32⟩
  | 1 => ⟨S512x512, .f32⟩
  | 2 => ⟨S512x1, .i32⟩
  | 3 => ⟨S_, .i32⟩
  | 4 => ⟨S512x1, .i32⟩
  | 5 => ⟨S512x1, .i1⟩
  | 6 => ⟨S1x512x1024, .f32⟩
  | 7 => ⟨S512x1024, .f32⟩
  | 8 => ⟨S512x1024, .f32⟩
  | 9 => ⟨S_, .f32⟩
  | 10 => ⟨S512x1024, .f32⟩
  | 11 => ⟨S512x1024, .f32⟩
  | 12 => ⟨S1x1024x512, .f32⟩
  | 13 => ⟨S1024x512, .f32⟩
  | 14 => ⟨S512x512, .f32⟩
  | 15 => ⟨S512x1, .f32⟩
  | 16 => ⟨S512x512, .f32⟩
  | 17 => ⟨S512x512, .f32⟩
  | 18 => ⟨S_, .f32⟩
  | 19 => ⟨S_, .f32⟩
  | 20 => ⟨S512x512, .i1⟩
  | 21 => ⟨S512x512, .f32⟩
  | 22 => ⟨S512x512, .f32⟩
  | 23 => ⟨S512x512, .f32⟩
  | 24 => ⟨S512x1, .i32⟩
  | 25 => ⟨S_, .i32⟩
  | 26 => ⟨S512x1, .i32⟩
  | 27 => ⟨S512x1, .i1⟩
  | 28 => ⟨S1x512x1024, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S1x1024x512, .f32⟩
  | 35 => ⟨S1024x512, .f32⟩
  | 36 => ⟨S512x512, .f32⟩
  | 37 => ⟨S512x1, .f32⟩
  | 38 => ⟨S512x512, .f32⟩
  | 39 => ⟨S512x512, .f32⟩
  | 40 => ⟨S_, .f32⟩
  | 41 => ⟨S_, .f32⟩
  | 42 => ⟨S512x512, .i1⟩
  | 43 => ⟨S512x512, .f32⟩
  | 44 => ⟨S512x512, .f32⟩
  | 45 => ⟨S512x512, .f32⟩
  | 46 => ⟨S512x1, .i32⟩
  | 47 => ⟨S_, .i32⟩
  | 48 => ⟨S512x1, .i32⟩
  | 49 => ⟨S512x1, .i1⟩
  | 50 => ⟨S1x512x1024, .f32⟩
  | 51 => ⟨S512x1024, .f32⟩
  | 52 => ⟨S512x1024, .f32⟩
  | 53 => ⟨S_, .f32⟩
  | 54 => ⟨S512x1024, .f32⟩
  | 55 => ⟨S512x1024, .f32⟩
  | 56 => ⟨S1x1024x512, .f32⟩
  | 57 => ⟨S1024x512, .f32⟩
  | 58 => ⟨S512x512, .f32⟩
  | 59 => ⟨S512x1, .f32⟩
  | 60 => ⟨S512x512, .f32⟩
  | 61 => ⟨S512x512, .f32⟩
  | 62 => ⟨S_, .f32⟩
  | 63 => ⟨S_, .f32⟩
  | 64 => ⟨S512x512, .i1⟩
  | 65 => ⟨S512x512, .f32⟩
  | 66 => ⟨S512x512, .f32⟩
  | 67 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_12 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_14 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_15 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_16 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_18 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_21 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_22 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_23 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_cst_24 : Ref sig .tc := ⟨.hbm, 190, rfl⟩
abbrev main_call7_v0 : Ref sig .tc := ⟨.hbm, 191, rfl⟩
abbrev main_call7_v1 : Ref sig .tc := ⟨.hbm, 192, rfl⟩
abbrev main_call7_v2 : Ref sig .tc := ⟨.hbm, 193, rfl⟩
abbrev main_v137 : Ref sig .tc := ⟨.hbm, 194, rfl⟩
abbrev main_v138 : Ref sig .tc := ⟨.hbm, 195, rfl⟩

abbrev nD : Nat := 1
abbrev τ : Topo := Topo.v7x

variable {F : FTy → Type} [FloatOps F]
-- ==== Proof.Common.lean ====
/-
# The exchange between the two devices of a column of the 2 × 2 mesh: cells, contents, schedule, levels

Device `c = (i, j)` (logical id `2 i + j`) talks to `peer c = (1 - i, j)` only, and `peer` is an involution. Each device
signals its peer's barrier semaphore and waits for its own; then it sends its rows in two chunks and its block of the
router, receives the peer's, computes its experts' contribution to the peer's rows chunk by chunk and sends each chunk
back. The cells of one device, all of them with one round of one duty:

* the barrier: paid by the peer, with the peer's five landing buffers;
* five receive cells (two chunks of rows, the router block, two chunks of the contribution): paid by the peer's copies,
  with the buffer at what landed;
* five send cells: paid by the device's own copies, with the source back.

Levels: send cells 0, barrier 1, rows and router 2, contribution 3.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-- The pipeline library's copy of the rounds algebra, the exchange's own, and the local transfers' counters. -/
abbrev UU : Type := UR sig nD τ × (UR sig nD τ × Counters)
/-- The resources. -/
abbrev MM (F : FTy → Type) : Type := MT nD τ sig Unit (Elt F) ℕ UU ℕ
abbrev EP : Emb (UR sig nD τ) (MM F) := embL
/-- The exchange's rounds: the left half of the right factor. -/
def ER : Emb (UR sig nD τ) (MM F) :=
  ((Emb.inl : Emb (UR sig nD τ) (UR sig nD τ × Counters)).trans (Emb.inr : Emb (UR sig nD τ × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ (MM F)) := by unfold ER; infer_instance

/-! ## The peer -/

/-- The device of the other row of the mesh, same column. -/
def peer (c : Dev nD) : Dev nD := ⟨(c.val + 2) % 4, Nat.mod_lt _ (by decide)⟩
theorem peer_peer (c : Dev nD) : peer (peer c) = c := by revert c; decide
theorem peer_ne (c : Dev nD) : peer c ≠ c := by revert c; decide
/-- `peer` as a permutation of the devices. -/
def swap : Dev nD ≃ Dev nD := ⟨peer, peer, peer_peer, peer_peer⟩

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide

/-! ## The memrefs -/

abbrev aX : Memref sig .tc .hbm S256x512 .f32 := Memref.whole main_arg0
abbrev aW1 : Memref sig .tc .hbm S2x512x1024 .f32 := Memref.whole main_arg2
abbrev aW2 : Memref sig .tc .hbm S2x1024x512 .f32 := Memref.whole main_arg3
abbrev rM : Memref sig .tc .vmem S512x2 .f32 := Memref.whole cc0_stg0_0
abbrev oM : Memref sig .tc .vmem S256x512 .f32 := Memref.whole cc0_stg1_0
abbrev xM : Memref sig .tc .vmem S256x512 .f32 := Memref.whole cc0_scratch0
abbrev w1M : Memref sig .tc .vmem S2x512x1024 .f32 := Memref.whole cc0_scratch1
abbrev w2M : Memref sig .tc .vmem S2x1024x512 .f32 := Memref.whole cc0_scratch2
abbrev rrM : Memref sig .tc .vmem S512x2 .f32 := Memref.whole cc0_scratch3
abbrev xsM : Memref sig .tc .vmem S256x512 .bf16 := Memref.whole cc0_scratch4
abbrev xrM : Memref sig .tc .vmem S256x512 .bf16 := Memref.whole cc0_scratch5
abbrev csM : Memref sig .tc .vmem S256x512 .bf16 := Memref.whole cc0_scratch6
abbrev crM : Memref sig .tc .vmem S256x512 .bf16 := Memref.whole cc0_scratch7

/-- The rows of a chunk. -/
abbrev ch0 : Rect S256x512 := Rect.unit (s := S256x512) ![0, 0] S128x512.size inb_S256x512_S128x512_0_0
abbrev ch1 : Rect S256x512 := Rect.unit (s := S256x512) ![128, 0] S128x512.size inb_S256x512_S128x512_128_0

abbrev xs0 : Memref sig .tc .vmem S128x512 .bf16 := xsM.slice ch0 (fun _ => rfl)
abbrev xs1 : Memref sig .tc .vmem S128x512 .bf16 := xsM.slice ch1 (fun _ => rfl)
abbrev xr0 : Memref sig .tc .vmem S128x512 .bf16 := xrM.slice ch0 (fun _ => rfl)
abbrev xr1 : Memref sig .tc .vmem S128x512 .bf16 := xrM.slice ch1 (fun _ => rfl)
abbrev cs0 : Memref sig .tc .vmem S128x512 .bf16 := csM.slice ch0 (fun _ => rfl)
abbrev cs1 : Memref sig .tc .vmem S128x512 .bf16 := csM.slice ch1 (fun _ => rfl)
abbrev cr0 : Memref sig .tc .vmem S128x512 .bf16 := crM.slice ch0 (fun _ => rfl)
abbrev cr1 : Memref sig .tc .vmem S128x512 .bf16 := crM.slice ch1 (fun _ => rfl)

/-! ## The semaphores and cells -/

abbrev barS : SemLoc sig := .reg (SemArray.scalar (sig.barrier 0 rfl) : Sems sig S_).sem
abbrev xsS0 : SemLoc sig := .dma ((cc0_scratch10.slice (Rect.unit (s := S3) ![0] S1.size inb_S3_S1_0)).squeeze S_ squeezes_S1_S_).sem
abbrev xsS1 : SemLoc sig := .dma ((cc0_scratch10.slice (Rect.unit (s := S3) ![1] S1.size inb_S3_S1_1)).squeeze S_ squeezes_S1_S_).sem
abbrev rsS : SemLoc sig := .dma ((cc0_scratch10.slice (Rect.unit (s := S3) ![2] S1.size inb_S3_S1_2)).squeeze S_ squeezes_S1_S_).sem
abbrev xrS0 : SemLoc sig := .dma ((cc0_scratch11.slice (Rect.unit (s := S3) ![0] S1.size inb_S3_S1_0)).squeeze S_ squeezes_S1_S_).sem
abbrev xrS1 : SemLoc sig := .dma ((cc0_scratch11.slice (Rect.unit (s := S3) ![1] S1.size inb_S3_S1_1)).squeeze S_ squeezes_S1_S_).sem
abbrev rrS : SemLoc sig := .dma ((cc0_scratch11.slice (Rect.unit (s := S3) ![2] S1.size inb_S3_S1_2)).squeeze S_ squeezes_S1_S_).sem
abbrev csS0 : SemLoc sig := .dma ((cc0_scratch12.slice (Rect.unit (s := S2) ![0] S1.size inb_S2_S1_0)).squeeze S_ squeezes_S1_S_).sem
abbrev csS1 : SemLoc sig := .dma ((cc0_scratch12.slice (Rect.unit (s := S2) ![1] S1.size inb_S2_S1_1)).squeeze S_ squeezes_S1_S_).sem
abbrev crS0 : SemLoc sig := .dma ((cc0_scratch13.slice (Rect.unit (s := S2) ![0] S1.size inb_S2_S1_0)).squeeze S_ squeezes_S1_S_).sem
abbrev crS1 : SemLoc sig := .dma ((cc0_scratch13.slice (Rect.unit (s := S2) ![1] S1.size inb_S2_S1_1)).squeeze S_ squeezes_S1_S_).sem
abbrev xS : SemLoc sig := .dma cc0_scratch8.sem
abbrev wS0 : SemLoc sig := .dma ((cc0_scratch9.slice (Rect.unit (s := S4) ![0] S1.size inb_S4_S1_0)).squeeze S_ squeezes_S1_S_).sem
abbrev wS1 : SemLoc sig := .dma ((cc0_scratch9.slice (Rect.unit (s := S4) ![1] S1.size inb_S4_S1_1)).squeeze S_ squeezes_S1_S_).sem
abbrev wS2 : SemLoc sig := .dma ((cc0_scratch9.slice (Rect.unit (s := S4) ![2] S1.size inb_S4_S1_2)).squeeze S_ squeezes_S1_S_).sem
abbrev wS3 : SemLoc sig := .dma ((cc0_scratch9.slice (Rect.unit (s := S4) ![3] S1.size inb_S4_S1_3)).squeeze S_ squeezes_S1_S_).sem

theorem barS_eq : barS = .reg 0 := by decide
theorem xsS0_eq : xsS0 = .dma 7 := by decide
theorem xsS1_eq : xsS1 = .dma 8 := by decide
theorem rsS_eq : rsS = .dma 9 := by decide
theorem xrS0_eq : xrS0 = .dma 10 := by decide
theorem xrS1_eq : xrS1 = .dma 11 := by decide
theorem rrS_eq : rrS = .dma 12 := by decide
theorem csS0_eq : csS0 = .dma 13 := by decide
theorem csS1_eq : csS1 = .dma 14 := by decide
theorem crS0_eq : crS0 = .dma 15 := by decide
theorem crS1_eq : crS1 = .dma 16 := by decide

abbrev cell (c : Dev nD) (s : SemLoc sig) : GSem nD τ sig := ((c : Thread nD τ), s)

/-- Units of one chunk's copy, and of the router block's. -/
abbrev NB : ℕ := xr0.view.dmaCredit
abbrev NR : ℕ := rrM.view.dmaCredit
theorem NB_pos : 0 < NB := View.dmaCredit_pos _ (by decide)
theorem NR_pos : 0 < NR := View.dmaCredit_pos _ (by decide)

/-! ## The schedule -/

/-- What the devices' buffers hold: the rows as sent, the router block, the contribution computed for the peer. -/
structure Conts (F : FTy → Type) where
  xb : Dev nD → (⟨S256x512, .bf16⟩ : BufTy).Contents (Elt F)
  rb : Dev nD → (⟨S512x2, .f32⟩ : BufTy).Contents (Elt F)
  cb : Dev nD → (⟨S256x512, .bf16⟩ : BufTy).Contents (Elt F)

abbrev sl {sp : Space} {s : Shape} {e : EltTy} (m : Memref sig .tc sp s e) (c : Dev nD) (f : Buf (Elt F) (m.view.loc (c : Thread nD τ))) : sProp (MM F) :=
  m.view.loc (c : Thread nD τ) ↦[m.view.set]{fullShare} f
abbrev sla {sp : Space} {s : Shape} {e : EltTy} (m : Memref sig .tc sp s e) (c : Dev nD) : sProp (MM F) :=
  iprop(∃ f : Buf (Elt F) (m.view.loc (c : Thread nD τ)), m.view.loc (c : Thread nD τ) ↦[m.view.set]{fullShare} f)

instance sla_storable {sp : Space} {s : Shape} {e : EltTy} (m : Memref sig .tc sp s e) (c : Dev nD) : BI.Storable (upEmb : UEmb _ (MM F)) (sla m c) := by
  unfold sla; infer_instance

/-- Device `c`'s five landing buffers, and that its five receive cells are at round 0. -/
def barPay (c : Dev nD) : sProp (MM F) :=
  iprop(sla xr0 c ∗ sla xr1 c ∗ sla rrM c ∗ sla cr0 c ∗ sla cr1 c
    ∗ reached ER (cell c xrS0) 0 ∗ reached ER (cell c xrS1) 0 ∗ reached ER (cell c rrS) 0 ∗ reached ER (cell c crS0) 0 ∗ reached ER (cell c crS1) 0)

variable (T : Conts F)

/-- What the duty of device `c`'s cell of DMA semaphore number `i` hands over. -/
def dmaPay (c : Dev nD) (i : ℕ) : sProp (MM F) :=
  match i with
  | 7 => sl xs0 c (T.xb c)
  | 8 => sl xs1 c (T.xb c)
  | 9 => sl rM c (T.rb c)
  | 10 => sl xr0 c (T.xb (peer c))
  | 11 => sl xr1 c (T.xb (peer c))
  | 12 => sl rrM c (T.rb (peer c))
  | 13 => sl cs0 c (T.cb c)
  | 14 => sl cs1 c (T.cb c)
  | 15 => sl cr0 c (T.cb (peer c))
  | 16 => sl cr1 c (T.cb (peer c))
  | _ => iprop(emp)

instance dmaPay_storable (c : Dev nD) (i : ℕ) : BI.Storable (upEmb : UEmb _ (MM F)) (dmaPay T c i) := by
  unfold dmaPay; split <;> infer_instance
set_option synthInstance.maxHeartbeats 400000 in
instance barPay_storable (c : Dev nD) : BI.Storable (upEmb : UEmb _ (MM F)) (barPay (F := F) c) := by
  unfold barPay; infer_instance

/-- The semaphores of the exchange. -/
def isTalk : SemLoc sig → Bool
  | .reg _ => true
  | .dma i => decide (7 ≤ i.val)

def talkRd : Rounds.Schedule (GSem nD τ sig) Unit (MM F) where
  duties g r := if r = 0 ∧ g.1.2 = .tc ∧ isTalk g.2 = true then {()} else ∅
  unitless _ := False
  amount g _ _ := match g.2 with
    | .reg _ => 1
    | .dma i => if i.val = 9 ∨ i.val = 12 then NR else NB
  payload g _ _ := match g.2 with
    | .reg _ => barPay (peer g.1.1)
    | .dma i => dmaPay T g.1.1 i.val
  amount_pos g _ _ _ := by
    rcases g with ⟨t, s⟩
    cases s with
    | reg _ => exact Nat.one_pos
    | dma i => show 0 < ite _ _ _; split; exacts [NR_pos, NB_pos]

instance talkRd_payload_storable (g : GSem nD τ sig) (r : ℕ) (d : Unit) : BI.Storable (upEmb : UEmb _ (MM F)) ((talkRd T).payload g r d) := by
  rcases g with ⟨t, s⟩
  cases s with
  | reg _ => exact barPay_storable _
  | dma i => exact dmaPay_storable T _ _

section Sched
variable (c : Dev nD) (u : Unit)

theorem duties_of (s : SemLoc sig) (h : isTalk s = true) : (talkRd T).duties (cell c s) 0 = {()} := by
  dsimp only [talkRd]; exact if_pos ⟨rfl, rfl, h⟩
theorem duties_later (g : GSem nD τ sig) : ∀ r, 1 ≤ r → (talkRd T).duties g r = ∅ :=
  fun r hr => by dsimp only [talkRd]; exact if_neg fun h => by omega

theorem d_bar : (talkRd T).duties (cell c barS) 0 = {()} := duties_of T c _ (by decide)
theorem d_xs0 : (talkRd T).duties (cell c xsS0) 0 = {()} := duties_of T c _ (by decide)
theorem d_xs1 : (talkRd T).duties (cell c xsS1) 0 = {()} := duties_of T c _ (by decide)
theorem d_rs : (talkRd T).duties (cell c rsS) 0 = {()} := duties_of T c _ (by decide)
theorem d_xr0 : (talkRd T).duties (cell c xrS0) 0 = {()} := duties_of T c _ (by decide)
theorem d_xr1 : (talkRd T).duties (cell c xrS1) 0 = {()} := duties_of T c _ (by decide)
theorem d_rr : (talkRd T).duties (cell c rrS) 0 = {()} := duties_of T c _ (by decide)
theorem d_cs0 : (talkRd T).duties (cell c csS0) 0 = {()} := duties_of T c _ (by decide)
theorem d_cs1 : (talkRd T).duties (cell c csS1) 0 = {()} := duties_of T c _ (by decide)
theorem d_cr0 : (talkRd T).duties (cell c crS0) 0 = {()} := duties_of T c _ (by decide)
theorem d_cr1 : (talkRd T).duties (cell c crS1) 0 = {()} := duties_of T c _ (by decide)

theorem amount_B (i : DmaSem sig) (h : ¬(i.val = 9 ∨ i.val = 12)) : (talkRd T).amount (cell c (.dma i)) 0 u = NB := if_neg h
theorem amount_R (i : DmaSem sig) (h : i.val = 9 ∨ i.val = 12) : (talkRd T).amount (cell c (.dma i)) 0 u = NR := if_pos h
theorem n_bar : (talkRd T).amount (cell c barS) 0 u = 1 := rfl
theorem n_xs0 : (talkRd T).amount (cell c xsS0) 0 u = NB := by rw [xsS0_eq]; exact amount_B T c u _ (by decide)
theorem n_xs1 : (talkRd T).amount (cell c xsS1) 0 u = NB := by rw [xsS1_eq]; exact amount_B T c u _ (by decide)
theorem n_rs : (talkRd T).amount (cell c rsS) 0 u = NR := by rw [rsS_eq]; exact amount_R T c u _ (by decide)
theorem n_xr0 : (talkRd T).amount (cell c xrS0) 0 u = NB := by rw [xrS0_eq]; exact amount_B T c u _ (by decide)
theorem n_xr1 : (talkRd T).amount (cell c xrS1) 0 u = NB := by rw [xrS1_eq]; exact amount_B T c u _ (by decide)
theorem n_rr : (talkRd T).amount (cell c rrS) 0 u = NR := by rw [rrS_eq]; exact amount_R T c u _ (by decide)
theorem n_cs0 : (talkRd T).amount (cell c csS0) 0 u = NB := by rw [csS0_eq]; exact amount_B T c u _ (by decide)
theorem n_cs1 : (talkRd T).amount (cell c csS1) 0 u = NB := by rw [csS1_eq]; exact amount_B T c u _ (by decide)
theorem n_cr0 : (talkRd T).amount (cell c crS0) 0 u = NB := by rw [crS0_eq]; exact amount_B T c u _ (by decide)
theorem n_cr1 : (talkRd T).amount (cell c crS1) 0 u = NB := by rw [crS1_eq]; exact amount_B T c u _ (by decide)

theorem expect_of (s : SemLoc sig) (h : isTalk s = true) (n : ℕ) (hn : (talkRd T).amount (cell c s) 0 () = n) : (talkRd T).expect (cell c s) 0 = n := by
  unfold Schedule.expect Schedule.amountOf; rw [duties_of T c s h, Finset.sum_singleton, hn]
theorem e_bar : (talkRd T).expect (cell c barS) 0 = 1 := expect_of T c _ (by decide) _ (n_bar T c ())
theorem e_xs0 : (talkRd T).expect (cell c xsS0) 0 = NB := expect_of T c _ (by decide) _ (n_xs0 T c ())
theorem e_xs1 : (talkRd T).expect (cell c xsS1) 0 = NB := expect_of T c _ (by decide) _ (n_xs1 T c ())
theorem e_rs : (talkRd T).expect (cell c rsS) 0 = NR := expect_of T c _ (by decide) _ (n_rs T c ())
theorem e_xr0 : (talkRd T).expect (cell c xrS0) 0 = NB := expect_of T c _ (by decide) _ (n_xr0 T c ())
theorem e_xr1 : (talkRd T).expect (cell c xrS1) 0 = NB := expect_of T c _ (by decide) _ (n_xr1 T c ())
theorem e_rr : (talkRd T).expect (cell c rrS) 0 = NR := expect_of T c _ (by decide) _ (n_rr T c ())
theorem e_cs0 : (talkRd T).expect (cell c csS0) 0 = NB := expect_of T c _ (by decide) _ (n_cs0 T c ())
theorem e_cs1 : (talkRd T).expect (cell c csS1) 0 = NB := expect_of T c _ (by decide) _ (n_cs1 T c ())
theorem e_cr0 : (talkRd T).expect (cell c crS0) 0 = NB := expect_of T c _ (by decide) _ (n_cr0 T c ())
theorem e_cr1 : (talkRd T).expect (cell c crS1) 0 = NB := expect_of T c _ (by decide) _ (n_cr1 T c ())

theorem p_bar : (talkRd T).payload (cell c barS) 0 u = barPay (peer c) := rfl
theorem p_xs0 : (talkRd T).payload (cell c xsS0) 0 u = sl xs0 c (T.xb c) := by rw [xsS0_eq]; rfl
theorem p_xs1 : (talkRd T).payload (cell c xsS1) 0 u = sl xs1 c (T.xb c) := by rw [xsS1_eq]; rfl
theorem p_rs : (talkRd T).payload (cell c rsS) 0 u = sl rM c (T.rb c) := by rw [rsS_eq]; rfl
theorem p_xr0 : (talkRd T).payload (cell c xrS0) 0 u = sl xr0 c (T.xb (peer c)) := by rw [xrS0_eq]; rfl
theorem p_xr1 : (talkRd T).payload (cell c xrS1) 0 u = sl xr1 c (T.xb (peer c)) := by rw [xrS1_eq]; rfl
theorem p_rr : (talkRd T).payload (cell c rrS) 0 u = sl rrM c (T.rb (peer c)) := by rw [rrS_eq]; rfl
theorem p_cs0 : (talkRd T).payload (cell c csS0) 0 u = sl cs0 c (T.cb c) := by rw [csS0_eq]; rfl
theorem p_cs1 : (talkRd T).payload (cell c csS1) 0 u = sl cs1 c (T.cb c) := by rw [csS1_eq]; rfl
theorem p_cr0 : (talkRd T).payload (cell c crS0) 0 u = sl cr0 c (T.cb (peer c)) := by rw [crS0_eq]; rfl
theorem p_cr1 : (talkRd T).payload (cell c crS1) 0 u = sl cr1 c (T.cb (peer c)) := by rw [crS1_eq]; rfl

end Sched

/-! ## What each core owes at launch; the levels -/

/-- The contribution's two chunks. -/
abbrev Oc (c : Dev nD) : CellTallies nD τ sig Unit := tallyAt (cell (peer c) crS1) () NB + tallyAt (cell (peer c) crS0) () NB
/-- The rows' two chunks and the router block besides. -/
abbrev Ox (c : Dev nD) : CellTallies nD τ sig Unit :=
  Oc c + tallyAt (cell (peer c) rrS) () NR + tallyAt (cell (peer c) xrS1) () NB + tallyAt (cell (peer c) xrS0) () NB
/-- The barrier's unit besides. -/
def O₀ (c : Dev nD) : CellTallies nD τ sig Unit := Ox c + tallyAt (cell (peer c) barS) () 1

def L (g : GSem nD τ sig) : Finset Unit := if g.1.2 = .tc then {()} else ∅
def lvS : SemLoc sig → ℕ
  | .reg _ => 1
  | .dma i => if i.val < 10 then 0 else if i.val < 13 then 2 else if i.val < 15 then 0 else 3
def lv (g : GSem nD τ sig) (_ : Unit) : ℕ := lvS g.2
theorem L_of_ne (g : GSem nD τ sig) (h : g.1.2 ≠ .tc) : L g = ∅ := if_neg h
theorem L_tc (c : Dev nD) (sm : SemLoc sig) : L (cell c sm) = {()} := if_pos rfl

/-- A tally sits on a TensorCore's cells of level `n` at least. -/
def Above (n : ℕ) (O : CellTallies nD τ sig Unit) : Prop := ∀ g u, 0 < O g u → g.1.2 = .tc ∧ n ≤ lvS g.2
theorem above_at (n : ℕ) (c : Dev nD) (s : SemLoc sig) (k : ℕ) (h : n ≤ lvS s) : Above n (tallyAt (cell c s) () k) := fun g u hg => by
  rw [tallyAt_apply] at hg
  by_cases h' : g = cell c s ∧ u = ()
  · rw [h'.1]; exact ⟨rfl, h⟩
  · rw [if_neg h'] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)

theorem mayWait_of (c : Dev nD) (s : SemLoc sig) (O : CellTallies nD τ sig Unit) (h : Above (lvS s + 1) O) :
    (levAts L lv : sProp (MM F)) ⊢ MayWait (c : Thread nD τ) s () O :=
  MayOwe.of_cut (L := L) (lev := lv) (lvS s) (fun p hp => by rw [Finset.mem_singleton.mp hp, L_tc]; exact Finset.mem_singleton_self _)
    (fun g u hg => by rw [L, if_pos (h g u hg).1]; exact Finset.mem_singleton_self _)
    (fun p hp => by rw [Finset.mem_singleton.mp hp]; exact le_rfl)
    (fun g u hg => (h g u hg).2)

theorem above_Oc (n : ℕ) (hn : n ≤ 3) (c : Dev nD) : Above n (Oc c) :=
  above_add (above_at _ _ _ _ (by rw [crS1_eq]; exact hn)) (above_at _ _ _ _ (by rw [crS0_eq]; exact hn))
theorem above_Ox (n : ℕ) (hn : n ≤ 2) (c : Dev nD) : Above n (Ox c) :=
  above_add (above_add (above_add (above_Oc n (by omega) c) (above_at _ _ _ _ (by rw [rrS_eq]; exact hn)))
    (above_at _ _ _ _ (by rw [xrS1_eq]; exact hn))) (above_at _ _ _ _ (by rw [xrS0_eq]; exact hn))
theorem above_O₀ (c : Dev nD) : Above 1 (O₀ c) := above_add (above_Ox 1 (by omega) c) (above_at _ _ _ _ (by rw [barS_eq]; decide))

end Cert.KProof

end
-- ==== Proof.Split.lean ====
/-
# Buffers in halves, and one copy to the peer

The buffers of rows are held in their two chunks and those of the weights in their two experts: each half is a copy's
source or destination on its own. `send_peer` is one addressed copy to the peer's same-shaped buffer.
-/
module

public import proofs.«01_k».proof.Proof.Common

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## Two halves of a buffer -/

section Halves
variable {ℓ : Loc nD τ sig} {I J : Finset (Idx ℓ)} {q : PosShare TreeShare}

theorem halves (hu : I ∪ J = Finset.univ) (hd : Disjoint I J) (f : Buf (Elt F) ℓ) :
    (ℓ ↦{q} f : sProp (MM F)) ⊣⊢ iprop((ℓ ↦[I]{q} f) ∗ ℓ ↦[J]{q} f) := by
  rw [← hu]; exact pointsTo_union hd

theorem halves_any (hu : I ∪ J = Finset.univ) (hd : Disjoint I J) :
    (iprop((∃ f, ℓ ↦[I]{q} f) ∗ ∃ f, ℓ ↦[J]{q} f) : sProp (MM F)) ⊢ iprop(∃ f, ℓ ↦{q} f) := by
  iintro ⟨⟨%f, H⟩, ⟨%g, H'⟩⟩
  ihave H := (pointsTo_join (f := f) (g := g) hd) $$ [H H']
  · isplitl [H]; · iexact H
    iexact H'
  iexists _; rw [hu]; iexact H
end Halves

theorem ch_union : ch0.set ∪ ch1.set = Finset.univ := by
  ext i
  simp only [Finset.mem_union, Finset.mem_univ, iff_true, Rect.mem_set_unit]
  have h0 : (i 0).val < 256 := (i 0).isLt
  have h1 : (i 1).val < 512 := (i 1).isLt
  by_cases h : (i 0).val < 128
  · left; intro a; fin_cases a
    · exact ⟨Nat.zero_le _, by show (i 0).val < 0 + 128; omega⟩
    · exact ⟨Nat.zero_le _, by show (i 1).val < 0 + 512; omega⟩
  · right; intro a; fin_cases a
    · exact ⟨by show 128 ≤ (i 0).val; omega, by show (i 0).val < 128 + 128; omega⟩
    · exact ⟨Nat.zero_le _, by show (i 1).val < 0 + 512; omega⟩
theorem ch_disj : Disjoint ch0.set ch1.set := Rect.unit_disjoint (0 : Fin 2) (Or.inl (by decide))

/-- The experts of the first layer's weights. -/
abbrev w1r0 : Rect S2x512x1024 := Rect.unit (s := S2x512x1024) ![0, 0, 0] S1x512x1024.size inb_S2x512x1024_S1x512x1024_0_0_0
abbrev w1r1 : Rect S2x512x1024 := Rect.unit (s := S2x512x1024) ![1, 0, 0] S1x512x1024.size inb_S2x512x1024_S1x512x1024_1_0_0
/-- The experts of the second layer's weights. -/
abbrev w2r0 : Rect S2x1024x512 := Rect.unit (s := S2x1024x512) ![0, 0, 0] S1x1024x512.size inb_S2x1024x512_S1x1024x512_0_0_0
abbrev w2r1 : Rect S2x1024x512 := Rect.unit (s := S2x1024x512) ![1, 0, 0] S1x1024x512.size inb_S2x1024x512_S1x1024x512_1_0_0
abbrev w1a : Memref sig .tc .vmem S512x1024 .f32 := (w1M.slice w1r0 (fun _ => rfl)).squeeze S512x1024 squeezes_S1x512x1024_S512x1024
abbrev w1b : Memref sig .tc .vmem S512x1024 .f32 := (w1M.slice w1r1 (fun _ => rfl)).squeeze S512x1024 squeezes_S1x512x1024_S512x1024
abbrev w2a : Memref sig .tc .vmem S1024x512 .f32 := (w2M.slice w2r0 (fun _ => rfl)).squeeze S1024x512 squeezes_S1x1024x512_S1024x512
abbrev w2b : Memref sig .tc .vmem S1024x512 .f32 := (w2M.slice w2r1 (fun _ => rfl)).squeeze S1024x512 squeezes_S1x1024x512_S1024x512

theorem w1_union : w1r0.set ∪ w1r1.set = Finset.univ := by
  ext i
  simp only [Finset.mem_union, Finset.mem_univ, iff_true, Rect.mem_set_unit]
  have h0 : (i 0).val < 2 := (i 0).isLt
  have h1 : (i 1).val < 512 := (i 1).isLt
  have h2 : (i 2).val < 1024 := (i 2).isLt
  by_cases h : (i 0).val < 1
  · left; intro a; fin_cases a
    · exact ⟨Nat.zero_le _, by show (i 0).val < 0 + 1; omega⟩
    · exact ⟨Nat.zero_le _, by show (i 1).val < 0 + 512; omega⟩
    · exact ⟨Nat.zero_le _, by show (i 2).val < 0 + 1024; omega⟩
  · right; intro a; fin_cases a
    · exact ⟨by show 1 ≤ (i 0).val; omega, by show (i 0).val < 1 + 1; omega⟩
    · exact ⟨Nat.zero_le _, by show (i 1).val < 0 + 512; omega⟩
    · exact ⟨Nat.zero_le _, by show (i 2).val < 0 + 1024; omega⟩
theorem w1_disj : Disjoint w1r0.set w1r1.set := Rect.unit_disjoint (0 : Fin 3) (Or.inl (by decide))
theorem w2_union : w2r0.set ∪ w2r1.set = Finset.univ := by
  ext i
  simp only [Finset.mem_union, Finset.mem_univ, iff_true, Rect.mem_set_unit]
  have h0 : (i 0).val < 2 := (i 0).isLt
  have h1 : (i 1).val < 1024 := (i 1).isLt
  have h2 : (i 2).val < 512 := (i 2).isLt
  by_cases h : (i 0).val < 1
  · left; intro a; fin_cases a
    · exact ⟨Nat.zero_le _, by show (i 0).val < 0 + 1; omega⟩
    · exact ⟨Nat.zero_le _, by show (i 1).val < 0 + 1024; omega⟩
    · exact ⟨Nat.zero_le _, by show (i 2).val < 0 + 512; omega⟩
  · right; intro a; fin_cases a
    · exact ⟨by show 1 ≤ (i 0).val; omega, by show (i 0).val < 1 + 1; omega⟩
    · exact ⟨Nat.zero_le _, by show (i 1).val < 0 + 1024; omega⟩
    · exact ⟨Nat.zero_le _, by show (i 2).val < 0 + 512; omega⟩
theorem w2_disj : Disjoint w2r0.set w2r1.set := Rect.unit_disjoint (0 : Fin 3) (Or.inl (by decide))

theorem set_xs0 : xs0.view.set = ch0.set := View.set_slice_whole _ _
theorem set_xs1 : xs1.view.set = ch1.set := View.set_slice_whole _ _
theorem set_w1a : w1a.view.set = w1r0.set := (View.set_reshape _ _).trans (View.set_slice_whole _ _)
theorem set_w1b : w1b.view.set = w1r1.set := (View.set_reshape _ _).trans (View.set_slice_whole _ _)
theorem set_w2a : w2a.view.set = w2r0.set := (View.set_reshape _ _).trans (View.set_slice_whole _ _)
theorem set_w2b : w2b.view.set = w2r1.set := (View.set_reshape _ _).trans (View.set_slice_whole _ _)

theorem xs_union : xs0.view.set ∪ xs1.view.set = Finset.univ := by rw [set_xs0, set_xs1]; exact ch_union
theorem xs_disj : Disjoint xs0.view.set xs1.view.set := by rw [set_xs0, set_xs1]; exact ch_disj
theorem xr_union : xr0.view.set ∪ xr1.view.set = Finset.univ := xs_union
theorem xr_disj : Disjoint xr0.view.set xr1.view.set := xs_disj
theorem cs_union : cs0.view.set ∪ cs1.view.set = Finset.univ := xs_union
theorem cs_disj : Disjoint cs0.view.set cs1.view.set := xs_disj
theorem cr_union : cr0.view.set ∪ cr1.view.set = Finset.univ := xs_union
theorem cr_disj : Disjoint cr0.view.set cr1.view.set := xs_disj
theorem w1s_union : w1a.view.set ∪ w1b.view.set = Finset.univ := by rw [set_w1a, set_w1b]; exact w1_union
theorem w1s_disj : Disjoint w1a.view.set w1b.view.set := by rw [set_w1a, set_w1b]; exact w1_disj
theorem w2s_union : w2a.view.set ∪ w2b.view.set = Finset.univ := by rw [set_w2a, set_w2b]; exact w2_union
theorem w2s_disj : Disjoint w2a.view.set w2b.view.set := by rw [set_w2a, set_w2b]; exact w2_disj

/-! ## One copy to the peer -/

/-- What a copy lands, seen on the elements it lands on: the contents whose reading through the destination is the source's. -/
theorem landed {sp : Space} {s : Shape} {e : EltTy} (m : Memref sig .tc sp s e) (c : Dev nD) (f g : Buf (Elt F) (m.view.loc (c : Thread nD τ)))
    (w : s.Idx → Elt F e) (h : m.view.read (Elt F) g = w) :
    sl m c (m.view.write (Elt F) f w Finset.univ) = sl m c g := by
  refine pointsTo_congr fun i hi => ?_
  subst h
  rw [View.write_read_eq_piecewise]
  exact Finset.piecewise_eq_of_mem _ _ _ hi

theorem send_peer [FloatOps F] [Named F] (T : Conts F) {sp sp' : Space} {s : Shape} {e : EltTy} (c n : Dev nD) (hn : n = peer c)
    (src : Memref sig .tc sp s e) (dst : Memref sig .tc sp' s e) (sS rS : SemLoc sig) (N κ₁ κ₂ : ℕ)
    (hN : dst.view.amount rS = N)
    (hd₁ : (talkRd T).duties (cell c sS) 0 = {()}) (hd₂ : (talkRd T).duties (cell (peer c) rS) 0 = {()})
    (ha₁ : (talkRd T).amount (cell c sS) 0 () = N) (ha₂ : (talkRd T).amount (cell (peer c) rS) 0 () = N)
    {fs : Buf (Elt F) (src.view.loc (c : Thread nD τ))} {g : Buf (Elt F) (dst.view.loc (peer c : Thread nD τ))}
    (hp₁ : (talkRd T).payload (cell c sS) 0 () = sl src c fs) (hp₂ : (talkRd T).payload (cell (peer c) rS) 0 () = sl dst (peer c) g)
    (hread : dst.view.read (Elt F) g = src.view.read (Elt F) fs)
    (O : CellTallies nD τ sig Unit) (W : Waits sig Unit)
    {hsc : (dst : Memref sig (Dev.tc n : Thread nD τ).2.kind sp' s e).view.ref.isScScratch = false}
    {hsrc : src.view.WordExact} {hdst : dst.view.WordExact}
    {hsem : DmaTarget.Typed sp rS (.remote (Dev.tc n : Thread nD τ) (dst : Memref sig (Dev.tc n : Thread nD τ).2.kind sp' s e) sS hsc)}
    {α : Type} {Q : α → sProp (MM F)} {k : PUnit → Prog (TpuEff nD τ sig (Elt F) Λ₀ .tc) α} :
    iprop(cellInv ER (talkRd T) κ₁ (cell c sS) ∗ cellInv ER (talkRd T) κ₂ (cell (peer c) rS)
        ∗ sl src c fs ∗ sla dst (peer c) ∗ owes (c : Thread nD τ) (O + tallyAt (cell (peer c) rS) () N) W
        ∗ dutyTok ER (cell c sS) 0 () ∗ reached ER (cell c sS) 0 ∗ dutyTok ER (cell (peer c) rS) 0 () ∗ reached ER (cell (peer c) rS) 0)
      ⊢ iprop(((cred (tallyAt (cell c sS) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst sS hsc) rS hsrc hdst hsem) k) Q) := by
  subst hn
  iintro ⟨#I1, #I2, Hs, ⟨%fd, Hd⟩, HO, D1, #R1, D2, #R2⟩
  iapply (Rounds.wp_send_pointsTo Variants.none ER (talkRd T) (c : Thread nD τ) none (κ₁ := κ₁) (κ₂ := κ₂)
    (r₁ := 0) (r₂ := 0) (d₁ := ()) (d₂ := ()) (fd := fd) (fs := fs) (q := fullShare)
    (by rw [hd₁]; exact Finset.mem_singleton_self _) (by rw [hd₂]; exact Finset.mem_singleton_self _)
    () () N hN ha₁ ha₂ O rfl (W := W)
    (by rw [hp₁]) (by rw [hp₂]; exact Entails.of_eq (landed dst (peer c) fd g _ hread))) $$ [Hs Hd HO D1 D2]
  isplitr; · iexact I1
  isplitr; · iexact I2
  isplitl [Hs]; · iexact Hs
  isplitl [Hd]; · iexact Hd
  isplitl [HO]; · iexact HO
  isplitl [D1]; · iexact D1
  isplitr; · iexact R1
  isplitl [D2]; · iexact D2
  iexact R2

end Cert.KProof

end
-- ==== Proof.Loads.lean ====
module

public import proofs.«01_k».proof.Proof.Split
public import Idealize.ShloMosaic.Lib.Tactic.Stretches
public import proofs.«01_k».proof.Proof.Gen.KernelIdeal.Skeleton

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (T : Conts F) (K : GSem nD τ sig → ℕ)

theorem zero2 : (![0, 0] : Fin 2 → ℕ) = fun _ => 0 := by funext a; fin_cases a <;> rfl

theorem xs_stored (f4 : (⟨S256x512, .bf16⟩ : BufTy).Contents (Elt F)) (f0 X : (⟨S256x512, .f32⟩ : BufTy).Contents (Elt F)) :
    xsM.view.writes (Elt F) f4 [⟨Rect.unit ![0, 0] S256x512.size inb_S256x512_S256x512_0_0,
      k0_pay2 (View.readAt (Elt F) xM.view (Rect.unit ![0, 0] S256x512.size inb_S256x512_S256x512_0_0).toLoadRect
        (View.write (Elt F) (Memref.whole cc0_scratch0).view f0 (aX.view.read (Elt F) X) Finset.univ))⟩] = k0_pay2 X := by
  rw [View.writes_singleton]
  refine (Memref.write_access_unit_zero_univ (Elt F) cc0_scratch4 zero2 _ f4 _).trans ?_
  congr 1
  refine (Memref.readAt_unit_zero (Elt F) cc0_scratch0 zero2 _ _).trans ?_
  exact View.write_whole_univ _ _ _

theorem whole_rM (c : Dev nD) (f : Buf (Elt F) (rM.view.loc (c : Thread nD τ))) :
    (rM.view.loc (c : Thread nD τ) ↦{fullShare} f : sProp (MM F)) = sl rM c f := by
  show _ = (_ ↦[_]{_} _)
  rw [(Memref.isWhole_whole cc0_stg0_0).set_eq_univ]

/-- The elements of chunk 0 and of chunk 1 of a buffer of rows. -/
def rows0 (f : (⟨S256x512, .bf16⟩ : BufTy).Contents (Elt F)) : Vec F S128x512 .bf16 :=
  View.readAt (Elt F) xrM.view ch0.toLoadRect f
def rows1 (f : (⟨S256x512, .bf16⟩ : BufTy).Contents (Elt F)) : Vec F S128x512 .bf16 :=
  View.readAt (Elt F) xrM.view ch1.toLoadRect f
/-- One expert's weights of the two layers. -/
def w1at0 (w : (⟨S2x512x1024, .f32⟩ : BufTy).Contents (Elt F)) : Vec F S1x512x1024 .f32 := View.readAt (Elt F) aW1.view w1r0.toLoadRect w
def w1at1 (w : (⟨S2x512x1024, .f32⟩ : BufTy).Contents (Elt F)) : Vec F S1x512x1024 .f32 := View.readAt (Elt F) aW1.view w1r1.toLoadRect w
def w2at0 (w : (⟨S2x1024x512, .f32⟩ : BufTy).Contents (Elt F)) : Vec F S1x1024x512 .f32 := View.readAt (Elt F) aW2.view w2r0.toLoadRect w
def w2at1 (w : (⟨S2x1024x512, .f32⟩ : BufTy).Contents (Elt F)) : Vec F S1x1024x512 .f32 := View.readAt (Elt F) aW2.view w2r1.toLoadRect w

/-! A load inside the half a copy filled reads what the copy's source has there. -/

theorem w1a_ld (w : (⟨S2x512x1024, .f32⟩ : BufTy).Contents (Elt F)) :
    View.readAt (Elt F) w1M.view w1r0.toLoadRect
      (w1a.view.writes (Elt F) w1a.view.junk [⟨Rect.whole S512x1024, ReadAs.same.apply (View.read (Elt F)
        ((aW1.slice w1r0 (fun _ => rfl)).squeeze S512x1024 squeezes_S1x512x1024_S512x1024).view w)⟩]) = w1at0 w := by
  rw [← View.write_univ_eq_writes_whole]
  refine Eq.trans (congrArg _ (View.write_read_eq_piecewise (v := w1a.view) _ w Finset.univ)) ?_
  funext x
  have hm : w1r0.emb x ∈ w1a.view.setOn Finset.univ := by
    show _ ∈ w1a.view.set
    rw [set_w1a]
    exact w1r0.toLoadRect.idx_mem x
  exact Finset.piecewise_eq_of_mem (w1a.view.setOn Finset.univ) w w1a.view.junk hm
theorem w1b_ld (w : (⟨S2x512x1024, .f32⟩ : BufTy).Contents (Elt F)) :
    View.readAt (Elt F) w1M.view w1r1.toLoadRect
      (w1b.view.writes (Elt F) w1b.view.junk [⟨Rect.whole S512x1024, ReadAs.same.apply (View.read (Elt F)
        ((aW1.slice w1r1 (fun _ => rfl)).squeeze S512x1024 squeezes_S1x512x1024_S512x1024).view w)⟩]) = w1at1 w := by
  rw [← View.write_univ_eq_writes_whole]
  refine Eq.trans (congrArg _ (View.write_read_eq_piecewise (v := w1b.view) _ w Finset.univ)) ?_
  funext x
  have hm : w1r1.emb x ∈ w1b.view.setOn Finset.univ := by
    show _ ∈ w1b.view.set
    rw [set_w1b]
    exact w1r1.toLoadRect.idx_mem x
  exact Finset.piecewise_eq_of_mem (w1b.view.setOn Finset.univ) w w1b.view.junk hm
theorem w2a_ld (w : (⟨S2x1024x512, .f32⟩ : BufTy).Contents (Elt F)) :
    View.readAt (Elt F) w2M.view w2r0.toLoadRect
      (w2a.view.writes (Elt F) w2a.view.junk [⟨Rect.whole S1024x512, ReadAs.same.apply (View.read (Elt F)
        ((aW2.slice w2r0 (fun _ => rfl)).squeeze S1024x512 squeezes_S1x1024x512_S1024x512).view w)⟩]) = w2at0 w := by
  rw [← View.write_univ_eq_writes_whole]
  refine Eq.trans (congrArg _ (View.write_read_eq_piecewise (v := w2a.view) _ w Finset.univ)) ?_
  funext x
  have hm : w2r0.emb x ∈ w2a.view.setOn Finset.univ := by
    show _ ∈ w2a.view.set
    rw [set_w2a]
    exact w2r0.toLoadRect.idx_mem x
  exact Finset.piecewise_eq_of_mem (w2a.view.setOn Finset.univ) w w2a.view.junk hm
theorem w2b_ld (w : (⟨S2x1024x512, .f32⟩ : BufTy).Contents (Elt F)) :
    View.readAt (Elt F) w2M.view w2r1.toLoadRect
      (w2b.view.writes (Elt F) w2b.view.junk [⟨Rect.whole S1024x512, ReadAs.same.apply (View.read (Elt F)
        ((aW2.slice w2r1 (fun _ => rfl)).squeeze S1024x512 squeezes_S1x1024x512_S1024x512).view w)⟩]) = w2at1 w := by
  rw [← View.write_univ_eq_writes_whole]
  refine Eq.trans (congrArg _ (View.write_read_eq_piecewise (v := w2b.view) _ w Finset.univ)) ?_
  funext x
  have hm : w2r1.emb x ∈ w2b.view.setOn Finset.univ := by
    show _ ∈ w2b.view.set
    rw [set_w2b]
    exact w2r1.toLoadRect.idx_mem x
  exact Finset.piecewise_eq_of_mem (w2b.view.setOn Finset.univ) w w2b.view.junk hm

/-- The two experts' weighted contribution to a chunk of rows `a`, rounded: `r` the experts' own router columns, `q` the other
    device's. -/
def chunk0 (a : Vec F S128x512 .bf16) (r q : Vec F S512x2 .f32) (u1 : Vec F S1x512x1024 .f32) (u2 : Vec F S1x1024x512 .f32)
    (v1 : Vec F S1x512x1024 .f32) (v2 : Vec F S1x1024x512 .f32) : FVec F S128x512 .bf16 :=
  k0_pay16 (k0_pay12 (k0_pay6 a r) (k0_pay8 a r q) (k0_pay9 a r q)) (k0_pay13 (k0_pay5 a) u1 u2) (k0_pay14 (k0_pay5 a) v1 v2)
    (k0_pay15 (k0_pay6 a r) (k0_pay8 a r q) (k0_pay9 a r q))

/-- The router block as a load reads it. -/
theorem ld_r (f : (⟨S512x2, .f32⟩ : BufTy).Contents (Elt F)) :
    View.readAt (Elt F) rM.view (Rect.unit (s := S512x2) ![0, 0] S512x2.size inb_S512x2_S512x2_0_0).toLoadRect f = f :=
  Memref.readAt_unit_zero (Elt F) cc0_stg0_0 zero2 _ f
theorem ld_rr (f : (⟨S512x2, .f32⟩ : BufTy).Contents (Elt F)) :
    View.readAt (Elt F) rrM.view (Rect.unit (s := S512x2) ![0, 0] S512x2.size inb_S512x2_S512x2_0_0).toLoadRect f = f :=
  Memref.readAt_unit_zero (Elt F) cc0_scratch3 zero2 _ f

end Cert.KProof

end
-- ==== Proof.Body.lean ====
module

public import proofs.«01_k».proof.Proof.Loads
public import Idealize.ShloMosaic.Lib.Tactic.Stretches
public import proofs.«01_k».proof.Proof.Gen.KernelIdeal.Skeleton

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (T : Conts F) (K : GSem nD τ sig → ℕ)

/-- The same for chunk 1. -/
def chunk1 (b : Vec F S128x512 .bf16) (r q : Vec F S512x2 .f32) (u1 : Vec F S1x512x1024 .f32) (u2 : Vec F S1x1024x512 .f32)
    (v1 : Vec F S1x512x1024 .f32) (v2 : Vec F S1x1024x512 .f32) : FVec F S128x512 .bf16 :=
  k0_pay27 (k0_pay17 b) (k0_pay23 b r q) (k0_pay24 b r q) (k0_pay25 b u1) k0_pay26 u2 v1 v2

/-- The own experts' weighted contribution to a device's own rows `X`. -/
def own (X : Vec F S256x512 .f32) (r q : Vec F S512x2 .f32) (u1 : Vec F S1x512x1024 .f32) (u2 : Vec F S1x1024x512 .f32)
    (v1 : Vec F S1x512x1024 .f32) (v2 : Vec F S1x1024x512 .f32) : FVec F S256x512 .f32 :=
  k0_pay36 (k0_pay28 (k0_pay4 X v1) v2) (k0_pay34 X (k0_pay3 X u1) u2 r q) (k0_pay35 X r q)

/-- The result on one device: its own contribution, and what the peer's landed. -/
def result (X : Vec F S256x512 .f32) (r q : Vec F S512x2 .f32) (w1 : (⟨S2x512x1024, .f32⟩ : BufTy).Contents (Elt F))
    (w2 : (⟨S2x1024x512, .f32⟩ : BufTy).Contents (Elt F)) (cb : (⟨S256x512, .bf16⟩ : BufTy).Contents (Elt F)) : FVec F S256x512 .f32 :=
  k0_pay1 (own X r q (w1at0 w1) (w2at0 w2) (w1at1 w1) (w2at1 w2)) cb

theorem whole_rrM (c : Dev nD) (f : Buf (Elt F) (rrM.view.loc (c : Thread nD τ))) :
    (rrM.view.loc (c : Thread nD τ) ↦{fullShare} f : sProp (MM F)) = sl rrM c f := by
  show _ = (_ ↦[_]{_} _)
  rw [(Memref.isWhole_whole cc0_scratch3).set_eq_univ]

/-- The rows' block as a load reads it back after the copy filled it. -/
theorem x_ld (f0 X : (⟨S256x512, .f32⟩ : BufTy).Contents (Elt F)) :
    View.readAt (Elt F) xM.view (Rect.unit (s := S256x512) ![0, 0] S256x512.size inb_S256x512_S256x512_0_0).toLoadRect
      (View.write (Elt F) (Memref.whole cc0_scratch0).view f0 (aX.view.read (Elt F) X) Finset.univ) = X := by
  refine (Memref.readAt_unit_zero (Elt F) cc0_scratch0 zero2 _ _).trans ?_
  exact View.write_whole_univ _ _ _
theorem cr_ld (f : (⟨S256x512, .bf16⟩ : BufTy).Contents (Elt F)) :
    View.readAt (Elt F) crM.view (Rect.unit (s := S256x512) ![0, 0] S256x512.size inb_S256x512_S256x512_0_0).toLoadRect f = f :=
  Memref.readAt_unit_zero (Elt F) cc0_scratch7 zero2 _ f
theorem o_st (fo w : (⟨S256x512, .f32⟩ : BufTy).Contents (Elt F)) :
    oM.view.writes (Elt F) fo [⟨Rect.unit (s := S256x512) ![0, 0] S256x512.size inb_S256x512_S256x512_0_0, w⟩] = w := by
  rw [View.writes_singleton]
  exact Memref.write_access_unit_zero_univ (Elt F) cc0_stg1_0 zero2 _ fo _

/-- The invariants device `c` opens. -/
def invs (c : Dev nD) : sProp (MM F) :=
  iprop(cellInv ER (talkRd T) (K (cell c barS)) (cell c barS)
    ∗ cellInv ER (talkRd T) (K (cell c xsS0)) (cell c xsS0) ∗ cellInv ER (talkRd T) (K (cell c xsS1)) (cell c xsS1)
    ∗ cellInv ER (talkRd T) (K (cell c rsS)) (cell c rsS)
    ∗ cellInv ER (talkRd T) (K (cell c xrS0)) (cell c xrS0) ∗ cellInv ER (talkRd T) (K (cell c xrS1)) (cell c xrS1)
    ∗ cellInv ER (talkRd T) (K (cell c rrS)) (cell c rrS)
    ∗ cellInv ER (talkRd T) (K (cell c csS0)) (cell c csS0) ∗ cellInv ER (talkRd T) (K (cell c csS1)) (cell c csS1)
    ∗ cellInv ER (talkRd T) (K (cell c crS0)) (cell c crS0) ∗ cellInv ER (talkRd T) (K (cell c crS1)) (cell c crS1)
    ∗ cellInv ER (talkRd T) (K (cell (peer c) barS)) (cell (peer c) barS)
    ∗ cellInv ER (talkRd T) (K (cell (peer c) xrS0)) (cell (peer c) xrS0) ∗ cellInv ER (talkRd T) (K (cell (peer c) xrS1)) (cell (peer c) xrS1)
    ∗ cellInv ER (talkRd T) (K (cell (peer c) rrS)) (cell (peer c) rrS)
    ∗ cellInv ER (talkRd T) (K (cell (peer c) crS0)) (cell (peer c) crS0) ∗ cellInv ER (talkRd T) (K (cell (peer c) crS1)) (cell (peer c) crS1))

/-- What one device holds at its body. -/
def runPre (c : Dev nD) (W : Waits sig Unit)
    (X : (⟨S256x512, .f32⟩ : BufTy).Contents (Elt F)) (w1 : (⟨S2x512x1024, .f32⟩ : BufTy).Contents (Elt F)) (w2 : (⟨S2x1024x512, .f32⟩ : BufTy).Contents (Elt F))
    (f0 : (⟨S256x512, .f32⟩ : BufTy).Contents (Elt F)) (f1 f1' : (⟨S2x512x1024, .f32⟩ : BufTy).Contents (Elt F)) (f2 f2' : (⟨S2x1024x512, .f32⟩ : BufTy).Contents (Elt F))
    (f3 : (⟨S512x2, .f32⟩ : BufTy).Contents (Elt F)) (f4 f5 f5' f6 f6' f7 f7' : (⟨S256x512, .bf16⟩ : BufTy).Contents (Elt F)) (fo : (⟨S256x512, .f32⟩ : BufTy).Contents (Elt F)) : sProp (MM F) :=
    iprop(invs T K c
      ∗ (atPos ER (cell c barS) 0 ∅ 0 ∗ atPos ER (cell c xsS0) 0 ∅ 0 ∗ atPos ER (cell c xsS1) 0 ∅ 0 ∗ atPos ER (cell c rsS) 0 ∅ 0
        ∗ atPos ER (cell c xrS0) 0 ∅ 0 ∗ atPos ER (cell c xrS1) 0 ∅ 0 ∗ atPos ER (cell c rrS) 0 ∅ 0
        ∗ atPos ER (cell c csS0) 0 ∅ 0 ∗ atPos ER (cell c csS1) 0 ∅ 0 ∗ atPos ER (cell c crS0) 0 ∅ 0 ∗ atPos ER (cell c crS1) 0 ∅ 0)
      ∗ (reached ER (cell (peer c) barS) 0 ∗ reached ER (cell c xsS0) 0 ∗ reached ER (cell c xsS1) 0 ∗ reached ER (cell c rsS) 0
        ∗ reached ER (cell c xrS0) 0 ∗ reached ER (cell c xrS1) 0 ∗ reached ER (cell c rrS) 0
        ∗ reached ER (cell c csS0) 0 ∗ reached ER (cell c csS1) 0 ∗ reached ER (cell c crS0) 0 ∗ reached ER (cell c crS1) 0)
      ∗ (dutyTok ER (cell (peer c) barS) 0 () ∗ dutyTok ER (cell c xsS0) 0 () ∗ dutyTok ER (cell c xsS1) 0 () ∗ dutyTok ER (cell c rsS) 0 ()
        ∗ dutyTok ER (cell (peer c) xrS0) 0 () ∗ dutyTok ER (cell (peer c) xrS1) 0 () ∗ dutyTok ER (cell (peer c) rrS) 0 ()
        ∗ dutyTok ER (cell c csS0) 0 () ∗ dutyTok ER (cell c csS1) 0 () ∗ dutyTok ER (cell (peer c) crS0) 0 () ∗ dutyTok ER (cell (peer c) crS1) 0 ())
      ∗ (cred (tallyAt (cell c barS) () 1) ∗ cred (tallyAt (cell c xrS0) () NB) ∗ cred (tallyAt (cell c xrS1) () NB) ∗ cred (tallyAt (cell c rrS) () NR)
        ∗ cred (tallyAt (cell c crS0) () NB) ∗ cred (tallyAt (cell c crS1) () NB))
      ∗ levAts L lv
      ∗ (semVal (cell c xS) 0 ∗ semVal (cell c wS0) 0 ∗ semVal (cell c wS1) 0 ∗ semVal (cell c wS2) 0 ∗ semVal (cell c wS3) 0)
      ∗ ((aX.view.loc (c : Thread nD τ) ↦{fullShare} X) ∗ (aW1.view.loc (c : Thread nD τ) ↦{fullShare} w1) ∗ (aW2.view.loc (c : Thread nD τ) ↦{fullShare} w2))
      ∗ ((rM.view.loc (c : Thread nD τ) ↦{fullShare} T.rb c) ∗ (oM.view.loc (c : Thread nD τ) ↦{fullShare} fo)
        ∗ (xM.view.loc (c : Thread nD τ) ↦{fullShare} f0)
        ∗ sl w1a c f1 ∗ sl w1b c f1' ∗ sl w2a c f2 ∗ sl w2b c f2' ∗ sla rrM c
        ∗ (xsM.view.loc (c : Thread nD τ) ↦{fullShare} f4)
        ∗ sla xr0 c ∗ sla xr1 c ∗ sl cs0 c f6 ∗ sl cs1 c f6' ∗ sla cr0 c ∗ sla cr1 c)
      ∗ owes (c : Thread nD τ) (Oc c + tallyAt (cell (peer c) rrS) () NR + tallyAt (cell (peer c) xrS1) () NB + tallyAt (cell (peer c) xrS0) () NB + tallyAt (cell (peer c) barS) () 1) W)

/-- What one device holds once its body has run: every counter it owns at zero, the result in its staging buffer. -/
def runPost (c : Dev nD) (X : (⟨S256x512, .f32⟩ : BufTy).Contents (Elt F)) (w1 : (⟨S2x512x1024, .f32⟩ : BufTy).Contents (Elt F))
    (w2 : (⟨S2x1024x512, .f32⟩ : BufTy).Contents (Elt F)) : sProp (MM F) :=
  iprop(semVal (cell c barS) 0
    ∗ (semVal (cell c xsS0) 0 ∗ semVal (cell c xsS1) 0 ∗ semVal (cell c rsS) 0
      ∗ semVal (cell c xrS0) 0 ∗ semVal (cell c xrS1) 0 ∗ semVal (cell c rrS) 0
      ∗ semVal (cell c csS0) 0 ∗ semVal (cell c csS1) 0 ∗ semVal (cell c crS0) 0 ∗ semVal (cell c crS1) 0)
    ∗ (semVal (cell c xS) 0 ∗ semVal (cell c wS0) 0 ∗ semVal (cell c wS1) 0 ∗ semVal (cell c wS2) 0 ∗ semVal (cell c wS3) 0)
    ∗ ((aX.view.loc (c : Thread nD τ) ↦{fullShare} X) ∗ (aW1.view.loc (c : Thread nD τ) ↦{fullShare} w1) ∗ (aW2.view.loc (c : Thread nD τ) ↦{fullShare} w2))
    ∗ ((rM.view.loc (c : Thread nD τ) ↦{fullShare} T.rb c)
      ∗ (oM.view.loc (c : Thread nD τ) ↦{fullShare} result X (T.rb c) (T.rb (peer c)) w1 w2 (T.cb (peer c))))
    ∗ ((∃ f, xM.view.loc (c : Thread nD τ) ↦{fullShare} f) ∗ (∃ f, w1M.view.loc (c : Thread nD τ) ↦{fullShare} f)
      ∗ (∃ f, w2M.view.loc (c : Thread nD τ) ↦{fullShare} f) ∗ (∃ f, rrM.view.loc (c : Thread nD τ) ↦{fullShare} f)
      ∗ (∃ f, xsM.view.loc (c : Thread nD τ) ↦{fullShare} f) ∗ (∃ f, xrM.view.loc (c : Thread nD τ) ↦{fullShare} f)
      ∗ (∃ f, csM.view.loc (c : Thread nD τ) ↦{fullShare} f) ∗ (∃ f, crM.view.loc (c : Thread nD τ) ↦{fullShare} f))
    ∗ ∃ W, owes (c : Thread nD τ) (0 : CellTallies nD τ sig Unit) W)

/-- A cell whose one round is over is closed: its counter is back at zero. -/
theorem close (κ : ℕ) (g : GSem nD τ sig) :
    iprop(cellInv ER (talkRd T) κ g ∗ atPos ER g 1 ∅ 0) ⊢ (|={Set.univ}=> semVal g 0 : sProp (MM F)) :=
  Rounds.cell_close ER (talkRd T) (Set.mem_univ κ) (fun h => h) (R := 0 + 1) (duties_later T g)

attribute [local sl_rounds] d_bar d_xs0 d_xs1 d_rs d_xr0 d_xr1 d_rr d_cs0 d_cs1 d_cr0 d_cr1
  n_bar n_xs0 n_xs1 n_rs n_xr0 n_xr1 n_rr n_cs0 n_cs1 n_cr0 n_cr1
  e_bar e_xs0 e_xs1 e_rs e_xr0 e_xr1 e_rr e_cs0 e_cs1 e_cr0 e_cr1
  p_bar p_xs0 p_xs1 p_rs p_xr0 p_xr1 p_rr p_cs0 p_cs1 p_cr0 p_cr1 barPay peer_peer

set_option maxHeartbeats 4000000 in
set_option maxRecDepth 65536 in
theorem run1 (c : Dev nD) (W : Waits sig Unit)
    (X : (⟨S256x512, .f32⟩ : BufTy).Contents (Elt F)) (w1 : (⟨S2x512x1024, .f32⟩ : BufTy).Contents (Elt F)) (w2 : (⟨S2x1024x512, .f32⟩ : BufTy).Contents (Elt F))
    (f0 : (⟨S256x512, .f32⟩ : BufTy).Contents (Elt F)) (f1 f1' : (⟨S2x512x1024, .f32⟩ : BufTy).Contents (Elt F)) (f2 f2' : (⟨S2x1024x512, .f32⟩ : BufTy).Contents (Elt F))
    (f3 : (⟨S512x2, .f32⟩ : BufTy).Contents (Elt F)) (f4 f5 f5' f6 f6' f7 f7' : (⟨S256x512, .bf16⟩ : BufTy).Contents (Elt F)) (fo : (⟨S256x512, .f32⟩ : BufTy).Contents (Elt F))
    (hx : T.xb c = k0_pay2 X)
    (hc0 : cs0.view.read (Elt F) (T.cb c) = chunk0 (rows0 (T.xb (peer c))) (T.rb c) (T.rb (peer c)) (w1at0 w1) (w2at0 w2) (w1at1 w1) (w2at1 w2))
    (hc1 : cs1.view.read (Elt F) (T.cb c) = chunk1 (rows1 (T.xb (peer c))) (T.rb c) (T.rb (peer c)) (w1at0 w1) (w2at0 w2) (w1at1 w1) (w2at1 w2)) :
    runPre T K c W X w1 w2 f0 f1 f1' f2 f2' f3 f4 f5 f5' f6 f6' f7 f7' fo
    ⊢ wp frame (wpE (defs₀ (F := F)) Variants.none (c : Thread nD τ) none) Set.univ
          (cc0_body (Memref.whole main_arg0) (Memref.isWhole_whole _) (Memref.whole cc0_stg0_0) (Memref.isWhole_whole _) (Memref.whole main_arg2) (Memref.isWhole_whole _)
            (Memref.whole main_arg3) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13)
          (fun _ => runPost T c X w1 w2) := by
  have h1 := dev1_eq c
  have h2 := dev2_eq c
  have h3 := dev3_eq c
  have h4 := dev4_eq c
  have h5 := dev5_eq c
  have h6 := dev6_eq c
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  delta runPre invs
  iintro ⟨⟨#IB, #Ixs0, #Ixs1, #Irs, #Ixr0, #Ixr1, #Irr, #Ics0, #Ics1, #Icr0, #Icr1, #IBp, #Ixr0p, #Ixr1p, #Irrp, #Icr0p, #Icr1p⟩,
    ⟨AB, Axs0, Axs1, Ars, Axr0, Axr1, Arr, Acs0, Acs1, Acr0, Acr1⟩,
    ⟨#RBp, #Rxs0, #Rxs1, #Rrs, #Rxr0, #Rxr1, #Rrr, #Rcs0, #Rcs1, #Rcr0, #Rcr1⟩,
    ⟨DBp, Dxs0, Dxs1, Drs, Dxr0, Dxr1, Drr, Dcs0, Dcs1, Dcr0, Dcr1⟩,
    ⟨CB, Cxr0, Cxr1, Crr, Ccr0, Ccr1⟩, #Hlev, ⟨Sx, Sw0, Sw1, Sw2, Sw3⟩, ⟨HX, HW1, HW2⟩,
    ⟨Hr, Ho, Hx, Hw1a, Hw1b, Hw2a, Hw2b, Hrr, Hxs, Hxr0, Hxr1, Hcs0, Hcs1, Hcr0, Hcr1⟩, HO⟩
  have hmwB := mayWait_of (F := F) c barS (Ox c) (above_Ox 2 le_rfl c)
  have hmwX := mayWait_of (F := F) c xS (Ox c) (above_Ox 1 (by decide) c)
  have hmw0 := mayWait_of (F := F) c wS0 (Oc c) (above_Oc 1 (by decide) c)
  have hmw1 := mayWait_of (F := F) c wS1 (Oc c) (above_Oc 1 (by decide) c)
  have hmw2 := mayWait_of (F := F) c wS2 (Oc c) (above_Oc 1 (by decide) c)
  have hmw3 := mayWait_of (F := F) c wS3 (Oc c) (above_Oc 1 (by decide) c)
  have hmw4 := mayWait_of (F := F) c rsS (Oc c) (by rw [rsS_eq]; exact above_Oc 1 (by decide) c)
  have hmw5 := mayWait_of (F := F) c rrS (Oc c) (by rw [rrS_eq]; exact above_Oc 3 (by decide) c)
  have hmw6 := mayWait_of (F := F) c xsS0 (Oc c) (by rw [xsS0_eq]; exact above_Oc 1 (by decide) c)
  have hmw7 := mayWait_of (F := F) c xrS0 (Oc c) (by rw [xrS0_eq]; exact above_Oc 3 (by decide) c)
  have hmw8 := mayWait_of (F := F) c xsS1 (tallyAt (cell (peer c) crS1) () NB) (by rw [xsS1_eq]; exact above_at _ _ _ _ (by rw [crS1_eq]; decide))
  have hmw9 := mayWait_of (F := F) c xrS1 (tallyAt (cell (peer c) crS1) () NB) (by rw [xrS1_eq]; exact above_at _ _ _ _ (by rw [crS1_eq]; decide))
  sl_exec
  -- the rows to send, in two chunks
  have exs : xsM.view.writes (Elt F) f4 [⟨Rect.unit ![0, 0] S256x512.size inb_S256x512_S256x512_0_0,
      k0_pay2 (View.readAt (Elt F) xM.view (Rect.unit ![0, 0] S256x512.size inb_S256x512_S256x512_0_0).toLoadRect
        (View.write (Elt F) (Memref.whole cc0_scratch0).view f0 (run1.sl.dma0 X) Finset.univ))⟩] = T.xb c := (xs_stored f4 f0 X).trans hx.symm
  ihave Hxs := (Entails.of_eq (congrArg (fun f => (xsM.view.loc (c : Thread nD τ) ↦{fullShare} f : sProp (MM F))) exs)) $$ Hxs
  ihave Hxs := (halves xs_union xs_disj (T.xb c)).1 $$ Hxs
  icases Hxs with ⟨Hxs0, Hxs1⟩
  ihave Hr := (Entails.of_eq (whole_rM c (T.rb c))) $$ Hr
  iapply (send_peer T c _ rfl xs0 xr0 xsS0 xrS0 NB _ _ rfl (d_xs0 T c) (d_xr0 T (peer c)) (n_xs0 T c ()) (n_xr0 T (peer c) ())
    (p_xs0 T c ()) (p_xr0 T (peer c) ()) (by rw [peer_peer]; rfl) _ _) $$ [Hxs0 AB_pay1 HO Dxs0 Dxr0 AB_pay6]
  · isplitr; · iexact Ixs0
    isplitr; · iexact Ixr0p
    isplitl [Hxs0]; · iexact Hxs0
    isplitl [AB_pay1]; · iexact AB_pay1
    isplitl [HO]; · iexact HO
    isplitl [Dxs0]; · iexact Dxs0
    isplitr; · iexact Rxs0
    isplitl [Dxr0]; · iexact Dxr0
    iexact AB_pay6
  iintro ⟨Cxs0, HO⟩
  sl_exec
  iapply (send_peer T c _ rfl xs1 xr1 xsS1 xrS1 NB _ _ rfl (d_xs1 T c) (d_xr1 T (peer c)) (n_xs1 T c ()) (n_xr1 T (peer c) ())
    (p_xs1 T c ()) (p_xr1 T (peer c) ()) (by rw [peer_peer]; rfl) _ _) $$ [Hxs1 AB_pay2 HO Dxs1 Dxr1 AB_pay7]
  · isplitr; · iexact Ixs1
    isplitr; · iexact Ixr1p
    isplitl [Hxs1]; · iexact Hxs1
    isplitl [AB_pay2]; · iexact AB_pay2
    isplitl [HO]; · iexact HO
    isplitl [Dxs1]; · iexact Dxs1
    isplitr; · iexact Rxs1
    isplitl [Dxr1]; · iexact Dxr1
    iexact AB_pay7
  iintro ⟨Cxs1, HO⟩
  sl_exec
  iapply (send_peer T c _ rfl rM rrM rsS rrS NR _ _ rfl (d_rs T c) (d_rr T (peer c)) (n_rs T c ()) (n_rr T (peer c) ())
    (p_rs T c ()) (p_rr T (peer c) ()) (by rw [peer_peer]; rfl) _ _) $$ [Hr AB_pay3 HO Drs Drr AB_pay8]
  · isplitr; · iexact Irs
    isplitr; · iexact Irrp
    isplitl [Hr]; · iexact Hr
    isplitl [AB_pay3]; · iexact AB_pay3
    isplitl [HO]; · iexact HO
    isplitl [Drs]; · iexact Drs
    isplitr; · iexact Rrs
    isplitl [Drr]; · iexact Drr
    iexact AB_pay8
  iintro ⟨Crs, HO⟩
  sl_exec
  have e0 : sl cs0 c (run1.sl.Hcs0_w1 T c w1 w2 f6) = sl cs0 c (T.cb c) := by
    sl_open_run
    rw [w1a_ld, w1b_ld, w2a_ld, w2b_ld, ld_r, ld_rr]
    exact landed cs0 c f6 (T.cb c) _ hc0
  ihave Hcs0 := (Entails.of_eq e0) $$ Hcs0
  iapply (send_peer T c _ rfl cs0 cr0 csS0 crS0 NB _ _ rfl (d_cs0 T c) (d_cr0 T (peer c)) (n_cs0 T c ()) (n_cr0 T (peer c) ())
    (p_cs0 T c ()) (p_cr0 T (peer c) ()) (by rw [peer_peer]; rfl) _ _) $$ [Hcs0 AB_pay4 HO Dcs0 Dcr0 AB_pay9]
  · isplitr; · iexact Ics0
    isplitr; · iexact Icr0p
    isplitl [Hcs0]; · iexact Hcs0
    isplitl [AB_pay4]; · iexact AB_pay4
    isplitl [HO]; · iexact HO
    isplitl [Dcs0]; · iexact Dcs0
    isplitr; · iexact Rcs0
    isplitl [Dcr0]; · iexact Dcr0
    iexact AB_pay9
  iintro ⟨Ccs0, HO⟩
  sl_exec
  have e1 : sl cs1 c (run1.sl.Hcs1_w1 T c w1 w2 f6') = sl cs1 c (T.cb c) := by
    sl_open_run
    rw [w1a_ld, w1b_ld, w2a_ld, w2b_ld, ld_r, ld_rr]
    exact landed cs1 c f6' (T.cb c) _ hc1
  ihave Hcs1 := (Entails.of_eq e1) $$ Hcs1
  iapply (send_peer T c _ rfl cs1 cr1 csS1 crS1 NB _ _ rfl (d_cs1 T c) (d_cr1 T (peer c)) (n_cs1 T c ()) (n_cr1 T (peer c) ())
    (p_cs1 T c ()) (p_cr1 T (peer c) ()) (by rw [peer_peer]; rfl) 0 _) $$ [Hcs1 AB_pay5 HO Dcs1 Dcr1 AB_pay10]
  · isplitr; · iexact Ics1
    isplitr; · iexact Icr1p
    isplitl [Hcs1]; · iexact Hcs1
    isplitl [AB_pay5]; · iexact AB_pay5
    isplitl [HO]; · rw [zero_add]; iexact HO
    isplitl [Dcs1]; · iexact Dcs1
    isplitr; · iexact Rcs1
    isplitl [Dcr1]; · iexact Dcr1
    iexact AB_pay10
  iintro ⟨Ccs1, HO⟩
  sl_exec
  ihave Hcr := (halves (ℓ := crM.view.loc (c : Thread nD τ)) (q := fullShare) cr_union cr_disj (T.cb (peer c))).2 $$ [Acr0_pay1 Acr1_pay1]
  · isplitl [Acr0_pay1]; · iexact Acr0_pay1
    iexact Acr1_pay1
  sl_exec
  have e2 : run1.sl.r_18 T c X w1 w2 f0 = own X (T.rb c) (T.rb (peer c)) (w1at0 w1) (w2at0 w2) (w1at1 w1) (w2at1 w2) := by
    sl_open_run
    rw [w1a_ld, w1b_ld, w2a_ld, w2b_ld, ld_r, ld_rr]
    erw [x_ld f0 X]
    rfl
  have e3 : oM.view.writes (Elt F) fo
      [⟨Rect.unit ![0, 0] S256x512.size inb_S256x512_S256x512_0_0, k0_pay1 (run1.sl.r_18 T c X w1 w2 f0)
            (View.readAt (Elt F) crM.view (Rect.unit ![0, 0] S256x512.size inb_S256x512_S256x512_0_0).toLoadRect (T.cb (peer c)))⟩]
      = result X (T.rb c) (T.rb (peer c)) w1 w2 (T.cb (peer c)) := by
    rw [o_st, cr_ld, e2]; rfl
  ihave Ho := (Entails.of_eq (congrArg (fun f => (oM.view.loc (c : Thread nD τ) ↦{fullShare} f : sProp (MM F))) e3)) $$ Ho
  ihave Hr := (Entails.of_eq (whole_rM c (T.rb c)).symm) $$ Ars_pay1
  ihave Hw1 := (halves_any (ℓ := w1M.view.loc (c : Thread nD τ)) (q := fullShare) w1s_union w1s_disj) $$ [Hw1a Hw1b]
  · isplitl [Hw1a]; · iexists _; iexact Hw1a
    iexists _; iexact Hw1b
  ihave Hw2 := (halves_any (ℓ := w2M.view.loc (c : Thread nD τ)) (q := fullShare) w2s_union w2s_disj) $$ [Hw2a Hw2b]
  · isplitl [Hw2a]; · iexists _; iexact Hw2a
    iexists _; iexact Hw2b
  ihave Hxs := (halves_any (ℓ := xsM.view.loc (c : Thread nD τ)) (q := fullShare) xs_union xs_disj) $$ [Axs0_pay1 Axs1_pay1]
  · isplitl [Axs0_pay1]; · iexists _; iexact Axs0_pay1
    iexists _; iexact Axs1_pay1
  ihave Hxr := (halves_any (ℓ := xrM.view.loc (c : Thread nD τ)) (q := fullShare) xr_union xr_disj) $$ [Axr0_pay1 Axr1_pay1]
  · isplitl [Axr0_pay1]; · iexists _; iexact Axr0_pay1
    iexists _; iexact Axr1_pay1
  ihave Hcs := (halves_any (ℓ := csM.view.loc (c : Thread nD τ)) (q := fullShare) cs_union cs_disj) $$ [Acs0_pay1 Acs1_pay1]
  · isplitl [Acs0_pay1]; · iexists _; iexact Acs0_pay1
    iexists _; iexact Acs1_pay1
  ihave Hrr := (Entails.of_eq (whole_rrM c (T.rb (peer c))).symm) $$ Arr_pay1
  rw [wp_ret]
  imod (close T (K (cell c barS)) (cell c barS)) $$ [AB] with Zbar
  · isplitr; · iexact IB
    iexact AB
  imod (close T (K (cell c xsS0)) (cell c xsS0)) $$ [Axs0] with Zxs0
  · isplitr; · iexact Ixs0
    iexact Axs0
  imod (close T (K (cell c xsS1)) (cell c xsS1)) $$ [Axs1] with Zxs1
  · isplitr; · iexact Ixs1
    iexact Axs1
  imod (close T (K (cell c rsS)) (cell c rsS)) $$ [Ars] with Zrs
  · isplitr; · iexact Irs
    iexact Ars
  imod (close T (K (cell c xrS0)) (cell c xrS0)) $$ [Axr0] with Zxr0
  · isplitr; · iexact Ixr0
    iexact Axr0
  imod (close T (K (cell c xrS1)) (cell c xrS1)) $$ [Axr1] with Zxr1
  · isplitr; · iexact Ixr1
    iexact Axr1
  imod (close T (K (cell c rrS)) (cell c rrS)) $$ [Arr] with Zrr
  · isplitr; · iexact Irr
    iexact Arr
  imod (close T (K (cell c csS0)) (cell c csS0)) $$ [Acs0] with Zcs0
  · isplitr; · iexact Ics0
    iexact Acs0
  imod (close T (K (cell c csS1)) (cell c csS1)) $$ [Acs1] with Zcs1
  · isplitr; · iexact Ics1
    iexact Acs1
  imod (close T (K (cell c crS0)) (cell c crS0)) $$ [Acr0] with Zcr0
  · isplitr; · iexact Icr0
    iexact Acr0
  imod (close T (K (cell c crS1)) (cell c crS1)) $$ [Acr1] with Zcr1
  · isplitr; · iexact Icr1
    iexact Acr1
  imodintro
  unfold runPost
  isplitl [Zbar]; · iexact Zbar
  isplitl [Zxs0 Zxs1 Zrs Zxr0 Zxr1 Zrr Zcs0 Zcs1 Zcr0 Zcr1]
  · isplitl [Zxs0]; · iexact Zxs0
    isplitl [Zxs1]; · iexact Zxs1
    isplitl [Zrs]; · iexact Zrs
    isplitl [Zxr0]; · iexact Zxr0
    isplitl [Zxr1]; · iexact Zxr1
    isplitl [Zrr]; · iexact Zrr
    isplitl [Zcs0]; · iexact Zcs0
    isplitl [Zcs1]; · iexact Zcs1
    isplitl [Zcr0]; · iexact Zcr0
    iexact Zcr1
  isplitl [Sx Sw0 Sw1 Sw2 Sw3]
  · isplitl [Sx]; · iexact Sx
    isplitl [Sw0]; · iexact Sw0
    isplitl [Sw1]; · iexact Sw1
    isplitl [Sw2]; · iexact Sw2
    iexact Sw3
  isplitl [HX HW1 HW2]
  · isplitl [HX]; · iexact HX
    isplitl [HW1]; · iexact HW1
    iexact HW2
  isplitl [Hr Ho]
  · isplitl [Hr]; · iexact Hr
    iexact Ho
  isplitr [HO]
  · isplitl [Hx]; · iexists _; iexact Hx
    isplitl [Hw1]; · iexact Hw1
    isplitl [Hw2]; · iexact Hw2
    isplitl [Hrr]; · iexists _; iexact Hrr
    isplitl [Hxs]; · iexact Hxs
    isplitl [Hxr]; · iexact Hxr
    isplitl [Hcs]; · iexact Hcs
    iexists _; iexact Hcr
  iexists _; iexact HO

end Cert.KProof

end
-- ==== Proof.Region.lean ====
module

public import proofs.«01_k».proof.Proof.Body
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.RegionTalk

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

variable (m : (ℓ : Loc nD τ sig) → Buf (Elt F) ℓ)

/-! ## The contents the devices exchange -/

/-- The router block the pipeline stages: what the host cut for the device. -/
def rblk (c : Dev nD) : (⟨S512x2, .f32⟩ : BufTy).Contents (Elt F) := (win0_0.blk t0_0).view.read (Elt F) (V1 m c main_v9)

/-- The first chunk of what device `c` computes for its peer, and the second. -/
def ctr0 (c : Dev nD) : FVec F S128x512 .bf16 :=
  chunk0 (rows0 (k0_pay2 (V1 m (peer c) main_arg0))) (rblk m c) (rblk m (peer c)) (w1at0 (V1 m c main_arg2)) (w2at0 (V1 m c main_arg3))
    (w1at1 (V1 m c main_arg2)) (w2at1 (V1 m c main_arg3))
def ctr1 (c : Dev nD) : FVec F S128x512 .bf16 :=
  chunk1 (rows1 (k0_pay2 (V1 m (peer c) main_arg0))) (rblk m c) (rblk m (peer c)) (w1at0 (V1 m c main_arg2)) (w2at0 (V1 m c main_arg3))
    (w1at1 (V1 m c main_arg2)) (w2at1 (V1 m c main_arg3))

/-- What the exchange moves. -/
def Tm : Conts F where
  xb c := k0_pay2 (V1 m c main_arg0)
  rb c := rblk m c
  cb c := cs1.view.write (Elt F) (cs0.view.write (Elt F) (k0_pay2 (V1 m c main_arg0)) (ctr0 m c) Finset.univ) (ctr1 m c) Finset.univ

theorem cb_read0 (c : Dev nD) : cs0.view.read (Elt F) ((Tm m).cb c) = ctr0 m c := by
  show cs0.view.read (Elt F) (cs1.view.write (Elt F) (cs0.view.write (Elt F) _ (ctr0 m c) Finset.univ) (ctr1 m c) Finset.univ) = _
  refine Eq.trans ?_ (View.read_write_univ (v := cs0.view) (Val := Elt F) (k0_pay2 (V1 m c main_arg0)) (ctr0 m c))
  exact View.read_congr fun i hi => View.write_of_not_mem (v := cs1.view) _ _ _ (Finset.disjoint_left.mp cs_disj hi)
theorem cb_read1 (c : Dev nD) : cs1.view.read (Elt F) ((Tm m).cb c) = ctr1 m c :=
  View.read_write_univ (v := cs1.view) (Val := Elt F) _ _

/-- What device `c` leaves in its result block. -/
def outAt (c : Dev nD) : (⟨S256x512, .f32⟩ : BufTy).Contents (Elt F) :=
  result (V1 m c main_arg0) (rblk m c) (rblk m (peer c)) (V1 m c main_arg2) (V1 m c main_arg3) ((Tm m).cb (peer c))

/-! ## The kernel's own counters, and what a device holds -/

abbrev osem : Fin 15 → SemLoc sig := fun
  | 0 => xS | 1 => wS0 | 2 => wS1 | 3 => wS2 | 4 => wS3 | 5 => xsS0 | 6 => xsS1 | 7 => rsS | 8 => xrS0 | 9 => xrS1 | 10 => rrS
  | 11 => csS0 | 12 => csS1 | 13 => crS0 | 14 => crS1
theorem ownSemFacts : Pipeline.OwnSemFacts spec0 osem := by decide

theorem ownSems_eq (c : Dev nD) : (Pipeline.ownSems0 osem c : sProp (MM F)) = iprop(
    semVal (cell c xS) 0 ∗ semVal (cell c wS0) 0 ∗ semVal (cell c wS1) 0 ∗ semVal (cell c wS2) 0 ∗ semVal (cell c wS3) 0
    ∗ semVal (cell c xsS0) 0 ∗ semVal (cell c xsS1) 0 ∗ semVal (cell c rsS) 0 ∗ semVal (cell c xrS0) 0 ∗ semVal (cell c xrS1) 0 ∗ semVal (cell c rrS) 0 ∗ semVal (cell c csS0) 0 ∗ semVal (cell c csS1) 0 ∗ semVal (cell c crS0) 0 ∗ semVal (cell c crS1) 0) := by
  unfold Pipeline.ownSems0
  rw [bigSep_univ_eq_bigSepL [(0 : Fin 15), 1, 2, 3, 4, 5, 6, 7, 8, 9, 10, 11, 12, 13, 14] (by decide) (by decide)]
  rfl

/-- What device `c` carries from the launch to its region: the names of the cells, its place at the barrier, the right to open
    its ten cells of the exchange, the tokens it pays with. -/
def ghost (K : GSem nD τ sig → ℕ) (c : Dev nD) : sProp (MM F) :=
  iprop(invs (Tm m) K c ∗ atPos ER (cell c barS) 0 ∅ 0
    ∗ (openTok ER (cell c xsS0) ∗ openTok ER (cell c xsS1) ∗ openTok ER (cell c rsS) ∗ openTok ER (cell c xrS0) ∗ openTok ER (cell c xrS1) ∗ openTok ER (cell c rrS) ∗ openTok ER (cell c csS0) ∗ openTok ER (cell c csS1) ∗ openTok ER (cell c crS0) ∗ openTok ER (cell c crS1))
    ∗ reached ER (cell (peer c) barS) 0
    ∗ (dutyTok ER (cell (peer c) barS) 0 () ∗ dutyTok ER (cell c xsS0) 0 () ∗ dutyTok ER (cell c xsS1) 0 () ∗ dutyTok ER (cell c rsS) 0 ()
        ∗ dutyTok ER (cell (peer c) xrS0) 0 () ∗ dutyTok ER (cell (peer c) xrS1) 0 () ∗ dutyTok ER (cell (peer c) rrS) 0 ()
        ∗ dutyTok ER (cell c csS0) 0 () ∗ dutyTok ER (cell c csS1) 0 () ∗ dutyTok ER (cell (peer c) crS0) 0 () ∗ dutyTok ER (cell (peer c) crS1) 0 ()))

/-- The credit of the units the others owe it. -/
def creds (c : Dev nD) : sProp (MM F) :=
  iprop(cred (tallyAt (cell c barS) () 1) ∗ cred (tallyAt (cell c xrS0) () NB) ∗ cred (tallyAt (cell c xrS1) () NB) ∗ cred (tallyAt (cell c rrS) () NR)
        ∗ cred (tallyAt (cell c crS0) () NB) ∗ cred (tallyAt (cell c crS1) () NB))

/-- Once the ten cells are open. -/
def opened (K : GSem nD τ sig → ℕ) (c : Dev nD) : sProp (MM F) :=
  iprop(invs (Tm m) K c
      ∗ (atPos ER (cell c barS) 0 ∅ 0 ∗ atPos ER (cell c xsS0) 0 ∅ 0 ∗ atPos ER (cell c xsS1) 0 ∅ 0 ∗ atPos ER (cell c rsS) 0 ∅ 0 ∗ atPos ER (cell c xrS0) 0 ∅ 0 ∗ atPos ER (cell c xrS1) 0 ∅ 0 ∗ atPos ER (cell c rrS) 0 ∅ 0 ∗ atPos ER (cell c csS0) 0 ∅ 0 ∗ atPos ER (cell c csS1) 0 ∅ 0 ∗ atPos ER (cell c crS0) 0 ∅ 0 ∗ atPos ER (cell c crS1) 0 ∅ 0)
      ∗ (reached ER (cell (peer c) barS) 0 ∗ reached ER (cell c xsS0) 0 ∗ reached ER (cell c xsS1) 0 ∗ reached ER (cell c rsS) 0 ∗ reached ER (cell c xrS0) 0 ∗ reached ER (cell c xrS1) 0 ∗ reached ER (cell c rrS) 0 ∗ reached ER (cell c csS0) 0 ∗ reached ER (cell c csS1) 0 ∗ reached ER (cell c crS0) 0 ∗ reached ER (cell c crS1) 0)
      ∗ (dutyTok ER (cell (peer c) barS) 0 () ∗ dutyTok ER (cell c xsS0) 0 () ∗ dutyTok ER (cell c xsS1) 0 () ∗ dutyTok ER (cell c rsS) 0 ()
        ∗ dutyTok ER (cell (peer c) xrS0) 0 () ∗ dutyTok ER (cell (peer c) xrS1) 0 () ∗ dutyTok ER (cell (peer c) rrS) 0 ()
        ∗ dutyTok ER (cell c csS0) 0 () ∗ dutyTok ER (cell c csS1) 0 () ∗ dutyTok ER (cell (peer c) crS0) 0 () ∗ dutyTok ER (cell (peer c) crS1) 0 ()))

def five (c : Dev nD) : sProp (MM F) :=
  iprop(semVal (cell c xS) 0 ∗ semVal (cell c wS0) 0 ∗ semVal (cell c wS1) 0 ∗ semVal (cell c wS2) 0 ∗ semVal (cell c wS3) 0)
def ten (c : Dev nD) : sProp (MM F) :=
  iprop(semVal (cell c xsS0) 0 ∗ semVal (cell c xsS1) 0 ∗ semVal (cell c rsS) 0 ∗ semVal (cell c xrS0) 0 ∗ semVal (cell c xrS1) 0 ∗ semVal (cell c rrS) 0 ∗ semVal (cell c csS0) 0 ∗ semVal (cell c csS1) 0 ∗ semVal (cell c crS0) 0 ∗ semVal (cell c crS1) 0)
/-- The arguments the body reads itself. -/
def hbm (c : Dev nD) : sProp (MM F) :=
  iprop((aX.view.loc (c : Thread nD τ) ↦{fullShare} V1 m c main_arg0) ∗ (aW1.view.loc (c : Thread nD τ) ↦{fullShare} V1 m c main_arg2)
    ∗ (aW2.view.loc (c : Thread nD τ) ↦{fullShare} V1 m c main_arg3))

def Tk (c : Dev nD) : sProp (MM F) := iprop((∃ K, ghost m K c) ∗ creds c)
def Xk (c : Dev nD) : sProp (MM F) := iprop((∃ K, opened m K c) ∗ creds c ∗ levAts L lv ∗ five c)
def Yk (c : Dev nD) : sProp (MM F) := semVal (cell c barS) 0

instance invs_persistent (T : Conts F) (K : GSem nD τ sig → ℕ) (c : Dev nD) : BI.Persistent (invs T K c) := by unfold invs; infer_instance

theorem hopen (c : Dev nD) : iprop(Tk m c ∗ Pipeline.ownSems0 osem c ∗ levAts L lv) ⊢ (|={Set.univ}=> Xk m c : sProp (MM F)) := by
  rw [ownSems_eq]
  unfold Tk Xk ghost
  iintro ⟨⟨⟨%K, #HI, HB, ⟨Oxs0, Oxs1, Ors, Oxr0, Oxr1, Orr, Ocs0, Ocs1, Ocr0, Ocr1⟩, #RB, HD⟩, HC⟩, ⟨Sx, Sw0, Sw1, Sw2, Sw3, Zxs0, Zxs1, Zrs, Zxr0, Zxr1, Zrr, Zcs0, Zcs1, Zcr0, Zcr1⟩, #Hlev⟩
  ihave #HI' := (Entails.of_eq (show invs (Tm m) K c = _ from by unfold invs; rfl)) $$ HI
  icases HI' with ⟨-, #Ixs0, #Ixs1, #Irs, #Ixr0, #Ixr1, #Irr, #Ics0, #Ics1, #Icr0, #Icr1, -⟩
  imod (Rounds.cell_open ER (talkRd (Tm m)) (g := cell c xsS0) (Set.mem_univ (K (cell c xsS0)))) $$ [Oxs0 Zxs0] with ⟨Axs0, #Rxs0⟩
  · isplitr; · iexact Ixs0
    isplitl [Oxs0] <;> iassumption
  imod (Rounds.cell_open ER (talkRd (Tm m)) (g := cell c xsS1) (Set.mem_univ (K (cell c xsS1)))) $$ [Oxs1 Zxs1] with ⟨Axs1, #Rxs1⟩
  · isplitr; · iexact Ixs1
    isplitl [Oxs1] <;> iassumption
  imod (Rounds.cell_open ER (talkRd (Tm m)) (g := cell c rsS) (Set.mem_univ (K (cell c rsS)))) $$ [Ors Zrs] with ⟨Ars, #Rrs⟩
  · isplitr; · iexact Irs
    isplitl [Ors] <;> iassumption
  imod (Rounds.cell_open ER (talkRd (Tm m)) (g := cell c xrS0) (Set.mem_univ (K (cell c xrS0)))) $$ [Oxr0 Zxr0] with ⟨Axr0, #Rxr0⟩
  · isplitr; · iexact Ixr0
    isplitl [Oxr0] <;> iassumption
  imod (Rounds.cell_open ER (talkRd (Tm m)) (g := cell c xrS1) (Set.mem_univ (K (cell c xrS1)))) $$ [Oxr1 Zxr1] with ⟨Axr1, #Rxr1⟩
  · isplitr; · iexact Ixr1
    isplitl [Oxr1] <;> iassumption
  imod (Rounds.cell_open ER (talkRd (Tm m)) (g := cell c rrS) (Set.mem_univ (K (cell c rrS)))) $$ [Orr Zrr] with ⟨Arr, #Rrr⟩
  · isplitr; · iexact Irr
    isplitl [Orr] <;> iassumption
  imod (Rounds.cell_open ER (talkRd (Tm m)) (g := cell c csS0) (Set.mem_univ (K (cell c csS0)))) $$ [Ocs0 Zcs0] with ⟨Acs0, #Rcs0⟩
  · isplitr; · iexact Ics0
    isplitl [Ocs0] <;> iassumption
  imod (Rounds.cell_open ER (talkRd (Tm m)) (g := cell c csS1) (Set.mem_univ (K (cell c csS1)))) $$ [Ocs1 Zcs1] with ⟨Acs1, #Rcs1⟩
  · isplitr; · iexact Ics1
    isplitl [Ocs1] <;> iassumption
  imod (Rounds.cell_open ER (talkRd (Tm m)) (g := cell c crS0) (Set.mem_univ (K (cell c crS0)))) $$ [Ocr0 Zcr0] with ⟨Acr0, #Rcr0⟩
  · isplitr; · iexact Icr0
    isplitl [Ocr0] <;> iassumption
  imod (Rounds.cell_open ER (talkRd (Tm m)) (g := cell c crS1) (Set.mem_univ (K (cell c crS1)))) $$ [Ocr1 Zcr1] with ⟨Acr1, #Rcr1⟩
  · isplitr; · iexact Icr1
    isplitl [Ocr1] <;> iassumption
  imodintro
  isplitl [HB HD Axs0 Axs1 Ars Axr0 Axr1 Arr Acs0 Acs1 Acr0 Acr1]
  · iexists K; unfold opened
    isplitr; · iexact HI
    isplitl [HB Axs0 Axs1 Ars Axr0 Axr1 Arr Acs0 Acs1 Acr0 Acr1]
    · isplitl [HB]; · iexact HB
      isplitl [Axs0]; · iexact Axs0
      isplitl [Axs1]; · iexact Axs1
      isplitl [Ars]; · iexact Ars
      isplitl [Axr0]; · iexact Axr0
      isplitl [Axr1]; · iexact Axr1
      isplitl [Arr]; · iexact Arr
      isplitl [Acs0]; · iexact Acs0
      isplitl [Acs1]; · iexact Acs1
      isplitl [Acr0]; · iexact Acr0
      iexact Acr1
    isplitr
    · isplitr; · iexact RB
      isplitr; · iexact Rxs0
      isplitr; · iexact Rxs1
      isplitr; · iexact Rrs
      isplitr; · iexact Rxr0
      isplitr; · iexact Rxr1
      isplitr; · iexact Rrr
      isplitr; · iexact Rcs0
      isplitr; · iexact Rcs1
      isplitr; · iexact Rcr0
      iexact Rcr1
    iexact HD
  isplitl [HC]; · iexact HC
  isplitr; · iexact Hlev
  unfold five
  isplitl [Sx]; · iexact Sx
  isplitl [Sw0]; · iexact Sw0
  isplitl [Sw1]; · iexact Sw1
  isplitl [Sw2]; · iexact Sw2
  iexact Sw3

/-! ## The pipeline's proof data -/

def Φ₀ (c : Dev nD) : sProp (MM F) := iprop(Xk m c ∗ hbm m c ∗ Pipeline.scopedRest spec0 c ∗ ∃ r, prngReg c r)
def Φ₁ (c : Dev nD) : sProp (MM F) := iprop(Yk c ∗ ten c ∗ five c ∗ hbm m c ∗ Pipeline.scopedRest spec0 c ∗ ∃ r, prngReg c r)

def dats (p : Fin 1) (c : Dev nD) : Dat τ (Elt F) Unit ℕ UU ℕ (cfgs p) c where
  A w := V1 m c (Pipeline.arrRef (cfgs p).spec w)
  after w _ := match p, w with
    | 0, ⟨0, _⟩ => rblk m c
    | 0, ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

def bodyPre (c : Dev nD) : sProp (MM F) :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp (MM F) :=
  iprop(Φ₁ m c ∗ (dats m 0 c).owesAt () t0_0.succ ∗ stg c cc0_stg0_0 (rblk m c) ∗ stg c cc0_stg1_0 (outAt m c))

/-- A whole scratch buffer is its two halves. -/
theorem split_any {ℓ : Loc nD τ sig} {I J : Finset ℓ.2.ty.Idx} (hu : I ∪ J = Finset.univ) (hd : Disjoint I J) (f : Buf (Elt F) ℓ) :
    (ℓ ↦{fullShare} f : sProp (MM F)) ⊢ iprop((∃ g, ℓ ↦[I]{fullShare} g) ∗ ∃ g, ℓ ↦[J]{fullShare} g) := by
  iintro H
  ihave H := (halves hu hd f).1 $$ H
  icases H with ⟨H, H'⟩
  isplitl [H]; · iexists f; iexact H
  iexists f; iexact H'

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (W : Waits sig Unit) (hr : dat.recorded t = Set.univ := by first | rfl | skip) :
    (owes (c : Thread nD τ) O W : sProp (MM F)) ⊢ (dat.owesAt () t : sProp (MM F)) := by
  unfold Dat.owesAt Pipeline.owesWithin Dat.bound; rw [h0, hr]
  iintro HO; iexists W; isplitr; · ipureintro; exact fun _ _ => Or.inl trivial
  iexact HO

theorem sound_body (c : Dev nD) :
    bodyPre m c
      ⊢ wp frame (wpE (defs₀ (F := F)) 𝒱₀ c none) Set.univ
          (cc0_body (Memref.whole main_arg0) (Memref.isWhole_whole _) (Memref.whole cc0_stg0_0) (Memref.isWhole_whole _) (Memref.whole main_arg2) (Memref.isWhole_whole _)
            (Memref.whole main_arg3) (Memref.isWhole_whole _) (Memref.whole cc0_stg1_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scratch12 cc0_scratch13) (fun _ => bodyPost m c) := by
  unfold bodyPre Φ₀ Xk opened creds five hbm
  rw [scopedRest0_eq]
  iintro ⟨⟨⟨⟨%K, HI, HA, HR, HD⟩, HC, #Hlev, H5⟩, Hb, ⟨⟨%f0, S0⟩, ⟨%f1, S1⟩, ⟨%f2, S2⟩, ⟨%f3, S3⟩, ⟨%f4, S4⟩, ⟨%f5, S5⟩, ⟨%f6, S6⟩, ⟨%f7, S7⟩⟩, Hp⟩,
    Ho, ⟨%d0, %g0, %hg0, Hr⟩, ⟨%d1, %g1, %hg1, Hout⟩⟩
  have hx : g0 = rblk m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  ihave S1 := (halves (ℓ := w1M.view.loc (c : Thread nD τ)) w1s_union w1s_disj f1).1 $$ S1
  icases S1 with ⟨S1, S1'⟩
  ihave S2 := (halves (ℓ := w2M.view.loc (c : Thread nD τ)) w2s_union w2s_disj f2).1 $$ S2
  icases S2 with ⟨S2, S2'⟩
  ihave S5 := (split_any (ℓ := xrM.view.loc (c : Thread nD τ)) xr_union xr_disj f5) $$ S5
  icases S5 with ⟨S5, S5'⟩
  ihave S6 := (halves (ℓ := csM.view.loc (c : Thread nD τ)) cs_union cs_disj f6).1 $$ S6
  icases S6 with ⟨S6, S6'⟩
  ihave S7 := (split_any (ℓ := crM.view.loc (c : Thread nD τ)) cr_union cr_disj f7) $$ S7
  icases S7 with ⟨S7, S7'⟩
  ihave S3 := (Entails.of_eq (whole_rrM c f3)) $$ S3
  ihave Hrun := (run1 (Tm m) K c W (V1 m c main_arg0) (V1 m c main_arg2) (V1 m c main_arg3) f0 f1 f1 f2 f2 f3 f4 f5 f5 f6 f6 f7 f7 g1 rfl (cb_read0 m c) (cb_read1 m c)) $$ [HI HA HR HD HC H5 Hb S0 S1 S1' S2 S2' S3 S4 S5 S5' S6 S6' S7 S7' Hr Hout HO]
  · unfold runPre
    isplitl [HI]; · iexact HI
    isplitl [HA]; · iexact HA
    isplitl [HR]; · iexact HR
    isplitl [HD]; · iexact HD
    isplitl [HC]; · iexact HC
    isplitr; · iexact Hlev
    isplitl [H5]; · iexact H5
    isplitl [Hb]; · iexact Hb
    isplitr [HO]
    · isplitl [Hr]; · iexact Hr
      isplitl [Hout]; · iexact Hout
      isplitl [S0]; · iexact S0
      isplitl [S1]; · iexact S1
      isplitl [S1']; · iexact S1'
      isplitl [S2]; · iexact S2
      isplitl [S2']; · iexact S2'
      isplitl [S3]; · iexists f3; iexact S3
      isplitl [S4]; · iexact S4
      isplitl [S5]; · iexact S5
      isplitl [S5']; · iexact S5'
      isplitl [S6]; · iexact S6
      isplitl [S6']; · iexact S6'
      isplitl [S7]; · iexact S7
      iexact S7'
    iexact HO
  iapply (wp_wand_r frame (wpE (defs₀ (F := F)) 𝒱₀ c none) Set.univ)
  isplitl [Hrun]; · iexact Hrun
  iintro %u
  unfold runPost bodyPost Φ₁ Yk ten five hbm
  rw [scopedRest0_eq]
  iintro ⟨Hb0, H10, H5, Hb, ⟨Hr, Hout⟩, Hsc, ⟨%W', HO⟩⟩
  isplitl [Hb0 H10 H5 Hb Hsc Hp]
  · isplitl [Hb0]; · iexact Hb0
    isplitl [H10]; · iexact H10
    isplitl [H5]; · iexact H5
    isplitl [Hb]; · iexact Hb
    isplitl [Hsc]; · iexact Hsc
    iexact Hp
  isplitl [HO]
  · iapply (owesAt_intro (dats m 0 c) t0_0.succ 0 rfl W'); iexact HO
  isplitl [Hr]
  · iexists _; isplitr; · ipureintro; rfl
    iexact Hr
  iexists _; isplitr; · ipureintro; rfl
  iexact Hout

theorem body_obligation (c : Dev nD) : BodyObligation (dats m 0 c) (defs₀ (F := F)) 𝒱₀ () Set.univ := fun t => by
  rw [fin_N0 t]
  rw [bigSep_W0, bigSep_W0]
  simp only [owns_whole_eq]
  exact sound_body m c

/-! ## The segment -/

theorem share_eq (c : Dev nD) (w : Fin cfg0.W) : (dats m 0 c).share w = fullShare := by unfold Dat.share; split <;> rfl

/-- The staged router block is what the host cut. -/
theorem rblk_eq (c : Dev nD) : rblk m c = V1 m c main_v9 := by
  have hz : (fun a => (win0_0.index t0_0) a * main_v9.ty.shape.size a) = fun _ => 0 := funext fun a => by fin_cases a <;> decide
  exact Memref.read_access_unit_zero (Elt F) main_v9 hz (fun a => by fin_cases a <;> decide) _

/-- The result array ends as the body left its staging buffer. -/
theorem arrAt_out (c : Dev nD) : (dats m 0 c).arrAt 1 (cfgs 0).N = outAt m c := by
  have hz : (fun a => (win0_1.index t0_0) a * main_v10.ty.shape.size a) = fun _ => 0 := funext fun a => by fin_cases a <;> decide
  have hr := fun f => Memref.read_access_unit_zero (Elt F) main_v10 hz (fun a => by fin_cases a <;> decide) f
  refine (hr _).symm.trans ?_
  show (win0_1.blk t0_0).view.read (Elt F) ((dats m 0 c).arrAt (1 : Fin 2) (t0_0.val + 1)) = _
  rw [(dats m 0 c).arrAt_succ (1 : Fin 2) t0_0, if_pos (flush0_1 t0_0)]
  exact View.read_write_univ _ _

/-- The one buffer the kernel writes. -/
def outs : Outs (F := F) := fun _ r c => Function.update (V1 m c) main_v10 (outAt m c) r

theorem outs_eq (c : Dev nD) : outs m 2 main_v10 c = outAt m c := Function.update_self ..

abbrev Hs : Finset (DevRef τ sig) := {Proc.devRef .tc main_arg0, Proc.devRef .tc main_arg2, Proc.devRef .tc main_arg3}
abbrev Sr : Finset (DevRef τ sig) := Pipeline.ucRefs τ sig \ Pipeline.arrRefs spec0

theorem held_hbm (c : Dev nD) (W : Valuation τ sig (Elt F)) (h0 : W main_arg0 = V1 m c main_arg0) (h2 : W main_arg2 = V1 m c main_arg2) (h3 : W main_arg3 = V1 m c main_arg3) :
    (StableHlo.held (c : Thread nD τ) Hs W : sProp (MM F)) = hbm m c := by
  unfold StableHlo.held hbm
  rw [bigSep_eq_bigSepL_of_eq [Proc.devRef .tc main_arg0, Proc.devRef .tc main_arg2, Proc.devRef .tc main_arg3] (by decide) (by decide), ← h0, ← h2, ← h3]
  rfl

theorem hin (c : Dev nD) : iprop(Pipeline.scopedRest spec0 c ∗ (∃ r, prngReg c r) ∗ StableHlo.held (c : Thread nD τ) Hs (V1 m c) ∗ Xk m c)
    ⊢ (dats m 0 c).Φ 0 := by
  rw [show (dats m 0 c).Φ 0 = Φ₀ m c from rfl, held_hbm m c (V1 m c) rfl rfl rfl]
  unfold Φ₀
  iintro ⟨Hs, Hp, Hh, HX⟩
  isplitl [HX]; · iexact HX
  isplitl [Hh]; · iexact Hh
  isplitl [Hs] <;> iassumption

theorem V2_arg (c : Dev nD) (r : Ref sig .tc) (h : r ∉ ([main_v10] : List (Ref sig .tc))) : V2 m (outs m) c r = V1 m c r := V2_of m (outs m) c r h

theorem hout (c : Dev nD) : (dats m 0 c).Φ (Fin.last (cfgs 0).N)
    ⊢ iprop(Pipeline.scopedRest spec0 c ∗ (∃ r, prngReg c r) ∗ StableHlo.held (c : Thread nD τ) Hs (V2 m (outs m) c) ∗ Pipeline.ownSems0 osem c ∗ Yk c) := by
  rw [show (dats m 0 c).Φ (Fin.last (cfgs 0).N) = Φ₁ m c from rfl, ownSems_eq,
    held_hbm m c (V2 m (outs m) c) (V2_arg m c _ (by decide)) (V2_arg m c _ (by decide)) (V2_arg m c _ (by decide))]
  unfold Φ₁ ten five
  iintro ⟨HY, Ht, ⟨F0, F1, F2, F3, F4⟩, Hh, Hs, Hp⟩
  isplitl [Hs]; · iexact Hs
  isplitl [Hp]; · iexact Hp
  isplitl [Hh]; · iexact Hh
  isplitr [HY]
  · isplitl [F0]; · iexact F0
    isplitl [F1]; · iexact F1
    isplitl [F2]; · iexact F2
    isplitl [F3]; · iexact F3
    isplitl [F4]; · iexact F4
    iexact Ht
  iexact HY

theorem cutD (c : Dev nD) (t : Fin ((cfgs 0).N + 1)) (g : GSem nD τ sig) (i : Unit) (h : 0 < (dats m 0 c).owed t g i) :
    i ∈ L g ∧ (0 : ℕ) < lv g i := by
  have h' : 0 < O₀ c g i := by
    obtain ⟨t, ht⟩ := t
    cases t with
    | zero => exact h
    | succ n => exact absurd h (Nat.lt_irrefl 0)
  obtain ⟨h1, h2⟩ := above_O₀ c g i h'
  refine ⟨?_, h2⟩
  obtain ⟨⟨d, u⟩, s⟩ := g
  obtain rfl : u = .tc := h1
  rw [L_tc]; exact Finset.mem_singleton_self _

theorem stg_low (w : Fin 2) (s : Fin (win0 w).nbuf) : lvS (.dma ((win0 w).sem s)) ≤ 0 := by
  fin_cases w <;> fin_cases s <;> decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rest_eq (c : Dev nD) : ∀ b ∈ Sr \ Hs, V2 m (outs m) c b = V1 m c b := fun b hb => by
  refine Function.update_of_ne (fun h => ?_) _ _
  subst h
  exact absurd hb (by decide)

set_option backward.isDefEq.respectTransparency.types false in
def R0 : Pipeline.RegionSeg (pcfgs (F := F)) adm (dats m) () defs₀ 𝒱₀ L lv 0 :=
  Pipeline.RegionSeg.ofTalk (pcfgs (F := F)) adm (dats m) () defs₀ 𝒱₀ L lv 0 osem ownSemFacts
    Hs Sr (by decide) kitP rfl (fun c => (body_obligation m c).loose)
    (fun _ => 0) O₀ (fun c => (zero_add _).symm) (fun c => rfl) (fun _ => rfl) (share_eq m)
    (V1 m) (V2 m (outs m)) (rest_eq m)
    (Tk m) Yk (Xk m) Yk (hopen m) (hin m) (hout m)
    (fun c => by iintro H; imodintro; iexact H)
    (fun _ => 0)
    ⟨fun _ w s => by rw [L_tc]; exact Finset.mem_singleton_self _, fun _ w s => stg_low w s, fun c t g i h => cutD m c t g i h⟩
    (fun _ => iprop(emp))
    (fun c w => by fin_cases w <;> rfl)
    (fun c w => by
      fin_cases w
      · exact ((dats m 0 c).arrAt_in (0 : Fin 2) rfl _).trans (V2_of m (outs m) c main_v9 (by decide)).symm
      · show (dats m 0 c).arrAt 1 (cfgs 0).N = V2 m (outs m) c main_v10
        rw [arrAt_out m c, ← outs_eq m c]
        exact (Function.update_self (Proc.devRef (τ := τ) .tc main_v10) (outs m 2 main_v10 c) (V1 m c)).symm)

end Cert.KProof

end
-- ==== Proof.Run.lean ====
module

public import proofs.«01_k».proof.Proof.Region

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

variable (m : (ℓ : Loc nD τ sig) → Buf (Elt F) ℓ) (ρ : Dev nD → PrngReg)

/-! ## The cells and the tokens of the launch -/

abbrev ssem : Fin 10 → SemLoc sig := fun
  | 0 => xsS0 | 1 => xsS1 | 2 => rsS | 3 => xrS0 | 4 => xrS1 | 5 => rrS | 6 => csS0 | 7 => csS1 | 8 => crS0 | 9 => crS1
abbrev tsem : Fin 11 → SemLoc sig := fun
  | 0 => barS | 1 => xsS0 | 2 => xsS1 | 3 => rsS | 4 => xrS0 | 5 => xrS1 | 6 => rrS | 7 => csS0 | 8 => csS1 | 9 => crS0 | 10 => crS1
theorem ssem_inj : Function.Injective ssem := by decide
theorem tsem_inj : Function.Injective tsem := by decide
theorem ssem_ne_bar : ∀ k : Fin 10, ssem k ≠ barS := by decide

def barEmb : Dev nD ↪ GSem nD τ sig := ⟨fun c => cell c barS, fun _ _ h => congrArg (fun g : GSem nD τ sig => g.1.1) h⟩
def scEmb : Dev nD × Fin 10 ↪ GSem nD τ sig :=
  ⟨fun ck => cell ck.1 (ssem ck.2), fun _ _ h =>
    Prod.ext (congrArg (fun g : GSem nD τ sig => g.1.1) h) (ssem_inj (congrArg Prod.snd h))⟩
abbrev barCells : Finset (GSem nD τ sig) := Finset.univ.map barEmb
abbrev scCells : Finset (GSem nD τ sig) := Finset.univ.map scEmb
def talkToks : Finset (GSem nD τ sig × ℕ × Unit) :=
  Finset.univ.map ⟨fun ck : Dev nD × Fin 11 => (cell ck.1 (tsem ck.2), 0, ()), fun _ _ h =>
    Prod.ext (congrArg (fun t : GSem nD τ sig × ℕ × Unit => t.1.1.1) h)
      (tsem_inj (congrArg (fun t : GSem nD τ sig × ℕ × Unit => t.1.2) h))⟩

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact ssem_ne_bar ck.2 (congrArg Prod.snd h)

theorem bar_mem (c : Dev nD) : cell c barS ∈ (barCells ∪ scCells : Finset (GSem nD τ sig)) :=
  Finset.mem_union_left _ (Finset.mem_map_of_mem barEmb (Finset.mem_univ c))
theorem sc_mem (c : Dev nD) (k : Fin 10) : cell c (ssem k) ∈ (barCells ∪ scCells : Finset (GSem nD τ sig)) :=
  Finset.mem_union_right _ (Finset.mem_map_of_mem scEmb (Finset.mem_univ (c, k)))

def u₀ : UU := (initOf (Pipeline.cells cfgs cellOf_inj) (Pipeline.launchToks cfgs cellOf_inj), (launchOf barCells scCells talkToks, 1))

theorem ownU_split (a b : UR sig nD τ) : (ownU ((a, (b, 1)) : UU) : sProp (MM F)) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A resource kept on one device. -/
def onDev (c₀ : Dev nD) (X : sProp (MM F)) (c : Dev nD) : sProp (MM F) := if c = c₀ then X else iprop(emp)
theorem bigSep_onDev (c₀ : Dev nD) (X : sProp (MM F)) : bigSep Finset.univ (onDev c₀ X) = X := by
  rw [bigSep_univ_at _ c₀, bigSep_congr (s := Finset.univ.erase c₀) (Ψ := fun _ => (BI.emp : sProp (MM F)))
      fun c hc => by unfold onDev; rw [if_neg (Finset.ne_of_mem_erase hc)]; rfl, BI.bigSep_emp_const]
  unfold onDev; rw [if_pos rfl]
  exact BI.equiv_iff.mp sep_emp

def G : Dev nD → sProp (MM F) := onDev 0 (BI.own (ER (launchOf barCells scCells talkToks)))

/-- All the invariants under one map of names; round 0 of every barrier cell reached. -/
def records (κ : GSem nD τ sig → ℕ) : sProp (MM F) :=
  iprop((bigSep (barCells ∪ scCells) fun g => cellInv ER (talkRd (Tm m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    (bigSep (barCells ∪ scCells) fun g => (cellInv ER (talkRd (Tm m)) (κ g) g : sProp (MM F))) ⊢ cellInv ER (talkRd (Tm m)) (κ g) g :=
  bigSep_elim hg

theorem reached_at (c : Dev nD) : (bigSep barCells fun g => (reached ER g 0 : sProp (MM F))) ⊢ reached ER (cell c barS) 0 :=
  bigSep_elim (Finset.mem_map_of_mem barEmb (Finset.mem_univ c))

def opens (c : Dev nD) : sProp (MM F) := iprop(openTok ER (cell c xsS0) ∗ openTok ER (cell c xsS1) ∗ openTok ER (cell c rsS) ∗ openTok ER (cell c xrS0) ∗ openTok ER (cell c xrS1) ∗ openTok ER (cell c rrS) ∗ openTok ER (cell c csS0) ∗ openTok ER (cell c csS1) ∗ openTok ER (cell c crS0) ∗ openTok ER (cell c crS1))
def pays (c : Dev nD) : sProp (MM F) := iprop(dutyTok ER (cell (peer c) barS) 0 () ∗ dutyTok ER (cell c xsS0) 0 () ∗ dutyTok ER (cell c xsS1) 0 () ∗ dutyTok ER (cell c rsS) 0 () ∗ dutyTok ER (cell (peer c) xrS0) 0 () ∗ dutyTok ER (cell (peer c) xrS1) 0 () ∗ dutyTok ER (cell (peer c) rrS) 0 () ∗ dutyTok ER (cell c csS0) 0 () ∗ dutyTok ER (cell c csS1) 0 () ∗ dutyTok ER (cell (peer c) crS0) 0 () ∗ dutyTok ER (cell (peer c) crS1) 0 ())
def toks (c : Dev nD) : sProp (MM F) := iprop(dutyTok ER (cell c barS) 0 () ∗ dutyTok ER (cell c xsS0) 0 () ∗ dutyTok ER (cell c xsS1) 0 () ∗ dutyTok ER (cell c rsS) 0 () ∗ dutyTok ER (cell c xrS0) 0 () ∗ dutyTok ER (cell c xrS1) 0 () ∗ dutyTok ER (cell c rrS) 0 () ∗ dutyTok ER (cell c csS0) 0 () ∗ dutyTok ER (cell c csS1) 0 () ∗ dutyTok ER (cell c crS0) 0 () ∗ dutyTok ER (cell c crS1) 0 ())

/-- What stays with one device. -/
def linear (c : Dev nD) : sProp (MM F) := iprop(atPos ER (cell c barS) 0 ∅ 0 ∗ opens c ∗ pays c)

theorem ghost_intro (κ : GSem nD τ sig → ℕ) (c : Dev nD) : iprop(records m κ ∗ linear c) ⊢ iprop(∃ K, ghost m K c) := by
  unfold records linear ghost invs opens pays
  iintro ⟨⟨#HI, #HR⟩, HaB, HO, HT⟩
  iexists κ
  isplitr
  · isplitr; · iapply (inv_at m κ (bar_mem c)); iexact HI
    isplitr; · iapply (inv_at m κ (sc_mem c 0)); iexact HI
    isplitr; · iapply (inv_at m κ (sc_mem c 1)); iexact HI
    isplitr; · iapply (inv_at m κ (sc_mem c 2)); iexact HI
    isplitr; · iapply (inv_at m κ (sc_mem c 3)); iexact HI
    isplitr; · iapply (inv_at m κ (sc_mem c 4)); iexact HI
    isplitr; · iapply (inv_at m κ (sc_mem c 5)); iexact HI
    isplitr; · iapply (inv_at m κ (sc_mem c 6)); iexact HI
    isplitr; · iapply (inv_at m κ (sc_mem c 7)); iexact HI
    isplitr; · iapply (inv_at m κ (sc_mem c 8)); iexact HI
    isplitr; · iapply (inv_at m κ (sc_mem c 9)); iexact HI
    isplitr; · iapply (inv_at m κ (bar_mem (peer c))); iexact HI
    isplitr; · iapply (inv_at m κ (sc_mem (peer c) 3)); iexact HI
    isplitr; · iapply (inv_at m κ (sc_mem (peer c) 4)); iexact HI
    isplitr; · iapply (inv_at m κ (sc_mem (peer c) 5)); iexact HI
    isplitr; · iapply (inv_at m κ (sc_mem (peer c) 8)); iexact HI
    iapply (inv_at m κ (sc_mem (peer c) 9)); iexact HI
  isplitl [HaB]; · iexact HaB
  isplitl [HO]; · iexact HO
  isplitr; · iapply (reached_at (F := F) (peer c)); iexact HR
  iexact HT

theorem toks_eq : bigSep talkToks (fun x => (dutyTok ER x.1 x.2.1 x.2.2 : sProp (MM F))) = bigSep Finset.univ fun c : Dev nD => toks c := by
  unfold talkToks; rw [bigSep_map, bigSep_univ_prod]
  exact bigSep_congr fun c _ => by
    unfold toks; rw [bigSep_univ_eq_bigSepL [(0 : Fin 11), 1, 2, 3, 4, 5, 6, 7, 8, 9, 10] (by decide) (by decide)]; rfl

theorem opens_eq : bigSep scCells (fun g => (openTok ER g : sProp (MM F))) = bigSep Finset.univ fun c : Dev nD => opens c := by
  rw [bigSep_map, bigSep_univ_prod]
  exact bigSep_congr fun c _ => by
    unfold opens; rw [bigSep_univ_eq_bigSepL [(0 : Fin 10), 1, 2, 3, 4, 5, 6, 7, 8, 9] (by decide) (by decide)]; rfl

/-- The tokens of the barrier and of the receive cells, each handed to the peer. -/
theorem toks_around : (bigSep Finset.univ fun c : Dev nD => (toks c : sProp (MM F))) ⊢ bigSep Finset.univ fun c : Dev nD => pays c := by
  unfold toks pays
  simp only [bigSep_sep']
  rw [bigSep_univ_equiv swap (fun c : Dev nD => (dutyTok ER (cell c barS) 0 () : sProp (MM F))),
    bigSep_univ_equiv swap (fun c : Dev nD => (dutyTok ER (cell c xrS0) 0 () : sProp (MM F))),
    bigSep_univ_equiv swap (fun c : Dev nD => (dutyTok ER (cell c xrS1) 0 () : sProp (MM F))),
    bigSep_univ_equiv swap (fun c : Dev nD => (dutyTok ER (cell c rrS) 0 () : sProp (MM F))),
    bigSep_univ_equiv swap (fun c : Dev nD => (dutyTok ER (cell c crS0) 0 () : sProp (MM F))),
    bigSep_univ_equiv swap (fun c : Dev nD => (dutyTok ER (cell c crS1) 0 () : sProp (MM F)))]
  exact BI.Entails.refl _

/-! ## The launch credit -/

/-- What a cell is owed. -/
def due (s : SemLoc sig) : ℕ :=
  (if s = crS1 then NB else 0) + (if s = crS0 then NB else 0) + (if s = rrS then NR else 0) + (if s = xrS1 then NB else 0) + (if s = xrS0 then NB else 0) + (if s = barS then 1 else 0)

theorem tal (d c : Dev nD) (s s' : SemLoc sig) (k : ℕ) :
    (tallyAt (cell (peer d) s') () k : CellTallies nD τ sig Unit) (cell c s) () = if d = peer c then (if s = s' then k else 0) else 0 := by
  rw [tallyAt_apply]
  by_cases h : d = peer c
  · subst h
    rw [peer_peer, if_pos rfl]
    by_cases hs : s = s'
    · rw [if_pos ⟨by rw [hs], rfl⟩, if_pos hs]
    · rw [if_neg (fun h => hs (congrArg Prod.snd h.1)), if_neg hs]
  · rw [if_neg h, if_neg]
    intro h'
    refine h ?_
    have : c = peer d := congrArg (fun g : GSem nD τ sig => g.1.1) h'.1
    rw [this, peer_peer]

theorem owed_eq (d c : Dev nD) (s : SemLoc sig) : O₀ d (cell c s) () = if d = peer c then due s else 0 := by
  unfold O₀ due
  simp only [Pi.add_apply, Finsupp.add_apply, tal]
  split <;> rfl

theorem launch_at (c : Dev nD) (s : SemLoc sig) :
    tallyOn (cell c s) (launchCredit (Pipeline.owing O₀) 0 (cell c s)) = (tallyAt (cell c s) () (due s) : CellTallies nD τ sig Unit) := by
  unfold tallyAt; refine congrArg _ (Finsupp.ext fun u => ?_); cases u
  rw [Pipeline.launchCredit_owing, Finsupp.single_eq_same, Finset.sum_congr rfl fun d _ => owed_eq d c s, Finset.sum_ite_eq' Finset.univ (peer c) fun _ => due s,
    if_pos (Finset.mem_univ _)]

theorem due_bar : due barS = 1 := by unfold due; simp only [show (barS = crS1) = False from by decide, show (barS = crS0) = False from by decide, show (barS = rrS) = False from by decide, show (barS = xrS1) = False from by decide, show (barS = xrS0) = False from by decide, show (barS = barS) = True from by decide, if_true, if_false, Nat.zero_add, Nat.add_zero]
theorem due_xr0 : due xrS0 = NB := by unfold due; simp only [show (xrS0 = crS1) = False from by decide, show (xrS0 = crS0) = False from by decide, show (xrS0 = rrS) = False from by decide, show (xrS0 = xrS1) = False from by decide, show (xrS0 = xrS0) = True from by decide, show (xrS0 = barS) = False from by decide, if_true, if_false, Nat.zero_add, Nat.add_zero]
theorem due_xr1 : due xrS1 = NB := by unfold due; simp only [show (xrS1 = crS1) = False from by decide, show (xrS1 = crS0) = False from by decide, show (xrS1 = rrS) = False from by decide, show (xrS1 = xrS1) = True from by decide, show (xrS1 = xrS0) = False from by decide, show (xrS1 = barS) = False from by decide, if_true, if_false, Nat.zero_add, Nat.add_zero]
theorem due_rr : due rrS = NR := by unfold due; simp only [show (rrS = crS1) = False from by decide, show (rrS = crS0) = False from by decide, show (rrS = rrS) = True from by decide, show (rrS = xrS1) = False from by decide, show (rrS = xrS0) = False from by decide, show (rrS = barS) = False from by decide, if_true, if_false, Nat.zero_add, Nat.add_zero]
theorem due_cr0 : due crS0 = NB := by unfold due; simp only [show (crS0 = crS1) = False from by decide, show (crS0 = crS0) = True from by decide, show (crS0 = rrS) = False from by decide, show (crS0 = xrS1) = False from by decide, show (crS0 = xrS0) = False from by decide, show (crS0 = barS) = False from by decide, if_true, if_false, Nat.zero_add, Nat.add_zero]
theorem due_cr1 : due crS1 = NB := by unfold due; simp only [show (crS1 = crS1) = True from by decide, show (crS1 = crS0) = False from by decide, show (crS1 = rrS) = False from by decide, show (crS1 = xrS1) = False from by decide, show (crS1 = xrS0) = False from by decide, show (crS1 = barS) = False from by decide, if_true, if_false, Nat.zero_add, Nat.add_zero]

theorem creds_intro (c : Dev nD) : (Pipeline.launchCred O₀ c : sProp (MM F)) ⊢ creds c := by
  unfold Pipeline.launchCred creds
  refine (bigSep_subset (t := ({barS, xrS0, xrS1, rrS, crS0, crS1} : Finset (SemLoc sig))) (Finset.subset_univ _)).trans ?_
  rw [bigSep_eq_bigSepL_of_eq [barS, xrS0, xrS1, rrS, crS0, crS1] (by decide) (by decide)]
  simp only [bigSepL]
  rw [launch_at c barS, due_bar, launch_at c xrS0, due_xr0, launch_at c xrS1, due_xr1, launch_at c rrS, due_rr, launch_at c crS0, due_cr0, launch_at c crS1, due_cr1]
  exact BI.Entails.refl _

/-! ## The thread states -/

/-- What rides beside the buffers up to the region. -/
def R (c : Dev nD) : sProp (MM F) := iprop(((∃ K, ghost m K c) ∗ creds c ∗ ∃ r, prngReg c r) ∗ ∃ W, owes (c : Thread nD τ) (O₀ c) W)
def Rend (c : Dev nD) : sProp (MM F) := iprop(semVal (cell c barS) 0 ∗ ∃ W, owes (c : Thread nD τ) (0 : CellTallies nD τ sig Unit) W)
def E (k : Fin 2) (c : Dev nD) : sProp (MM F) := match k with | 0 => R m c | 1 => Rend c

theorem arr_sub : Pipeline.arrRefs (τ := τ) spec0 ⊆ Pipeline.ucRefs τ sig := by decide

theorem held_uc (c : Dev nD) (V : Valuation τ sig (Elt F)) : (StableHlo.held (c : Thread nD τ) (Pipeline.ucRefs τ sig) V : sProp (MM F))
    = iprop(StableHlo.held (c : Thread nD τ) (Pipeline.arrRefs (τ := τ) spec0) V ∗ StableHlo.held (c : Thread nD τ) Sr V) :=
  StableHlo.held_sub_split (c : Thread nD τ) arr_sub V

theorem reg_pre (c : Dev nD) : iprop(StableHlo.held (c : Thread nD τ) (Pipeline.ucRefs τ sig) (V1 m c) ∗ R m c) ⊢ (R0 m).pre c := by
  show _ ⊢ iprop(StableHlo.held (c : Thread nD τ) (Pipeline.arrRefs (τ := τ) spec0) (V1 m c) ∗ (∃ r, prngReg c r)
    ∗ (StableHlo.held (c : Thread nD τ) Sr (V1 m c) ∗ emp) ∗ Tk m c ∗ ∃ Wd, owes (c : Thread nD τ) (0 + O₀ c) Wd)
  rw [held_uc, zero_add]
  unfold R Tk
  iintro ⟨⟨Ha, Hh⟩, ⟨HK, HC, Hp⟩, HO⟩
  isplitl [Ha]; · iexact Ha
  isplitl [Hp]; · iexact Hp
  isplitl [Hh]
  · isplitl [Hh]; · iexact Hh
    iempintro
  isplitl [HK HC]
  · isplitl [HK]; · iexact HK
    iexact HC
  iexact HO

theorem reg_post (c : Dev nD) : (R0 m).post c ⊢ iprop(StableHlo.held (c : Thread nD τ) (Pipeline.ucRefs τ sig) (V2 m (outs m) c) ∗ Rend c) := by
  show iprop(StableHlo.held (c : Thread nD τ) (Pipeline.arrRefs (τ := τ) spec0) (V2 m (outs m) c) ∗ (∃ r, prngReg c r)
    ∗ (StableHlo.held (c : Thread nD τ) Sr (V2 m (outs m) c) ∗ emp) ∗ Yk c ∗ ∃ Wd, owes (c : Thread nD τ) (0 : CellTallies nD τ sig Unit) Wd) ⊢ _
  rw [held_uc]
  unfold Yk Rend
  iintro ⟨Ha, -, ⟨Hh, -⟩, Hb, HO⟩
  isplitl [Ha Hh]
  · isplitl [Ha] <;> iassumption
  isplitl [Hb]; · iexact Hb
  iexact HO

abbrev T₀ (c : Dev nD) : sProp (MM F) := iprop(StableHlo.held (c : Thread nD τ) (Pipeline.ucRefs τ sig) (V0 m c) ∗ R m c)
abbrev Tₙ (c : Dev nD) : sProp (MM F) := iprop(StableHlo.held (c : Thread nD τ) (Pipeline.ucRefs τ sig) (V2 m (outs m) c) ∗ semVal (cell c barS) 0)

def bundle (c : Dev nD) : sProp (MM F) :=
  iprop(StableHlo.held (c : Thread nD τ) (Pipeline.ucRefs τ sig) (V0 m c) ∗ creds c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R
  iintro ⟨#HR, Hl, Hh, HC, HO, Hp⟩
  isplitl [Hh]; · iexact Hh
  isplitr [HO]
  · isplitl [Hl]
    · iapply (ghost_intro m κ c)
      isplitr; · iexact HR
      iexact Hl
    isplitl [HC] <;> iassumption
  · iexists ∅; iexact HO

theorem unscopedSems0_eq (c : Dev nD) : (unscopedSems0 c : sProp (MM F)) = semVal (cell c barS) 0 := by
  unfold unscopedSems0
  rw [show (Finset.univ.filter fun sm : SemLoc sig => ¬ sm.isScoped .tc) = {barS} from by decide, BI.bigSep_singleton]

theorem unpair {Φ Ψ : Dev nD → sProp (MM F)} :
    bigSep Finset.univ (fun c => iprop(Φ c ∗ Ψ c)) ⊢ iprop(bigSep Finset.univ Φ ∗ bigSep Finset.univ Ψ) :=
  Entails.of_eq (BI.bigSep_sep _ _ _)

theorem repair {Φ Ψ : Dev nD → sProp (MM F)} :
    iprop(bigSep Finset.univ Φ ∗ bigSep Finset.univ Ψ) ⊢ bigSep Finset.univ (fun c => iprop(Φ c ∗ Ψ c)) :=
  Entails.of_eq (BI.bigSep_sep _ _ _).symm

/-- The launch, every device at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp (MM F)) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (cell c barS) 0 ∗ G c)) : sProp (MM F)) := by
    rw [show unscopedBufs c (fun b => m ((c : Thread nD τ).loc b)) = StableHlo.held (c : Thread nD τ) (Pipeline.ucRefs τ sig) (V0 m c) from Pipeline.unscopedBufs_held c (V0 m c),
      unscopedSems0_eq]
    unfold bundle
    iintro ⟨Hh, Hus, HO, Hcr, Hp, HG⟩
    ihave Hc := (creds_intro (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell c barS) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hat : bigSep barCells (fun g => (atPos ER g 0 ∅ 0 : sProp (MM F))) ⊢ bigSep Finset.univ (fun c : Dev nD => (atPos ER (cell c barS) 0 ∅ 0 : sProp (MM F))) :=
    Entails.of_eq (bigSep_map (s := Finset.univ) barEmb (Φ := fun g : GSem nD τ sig => (atPos ER g 0 ∅ 0 : sProp (MM F))))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (cell c barS) 0 ∗ G c)) : sProp (MM F)) from bigSep_mono fun c _ => hcore c) $$ H
  ihave H2 := unpair $$ H'; icases H2 with ⟨HB, H3⟩
  ihave H4 := unpair $$ H3; icases H4 with ⟨Hv, HG⟩
  ihave Hu := (show bigSep Finset.univ (G (F := F)) ⊢ BI.own (ER (launchOf barCells scCells talkToks)) from
    Entails.of_eq (bigSep_onDev (F := F) 0 (BI.own (ER (launchOf barCells scCells talkToks))))) $$ HG
  imod (Rounds.fund_launch ER (talkRd (Tm m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply repair
  isplitr [HB]
  · unfold linear
    iapply repair; isplitl [Hat]; · iapply hat $$ Hat
    iapply repair; isplitl [Hopen]; · iapply (Entails.of_eq (opens_eq (F := F))) $$ Hopen
    iapply (toks_around (F := F))
    iapply (Entails.of_eq (toks_eq (F := F))) $$ Htok
  · iexact HB

/-! ## The run -/

theorem unscoped_eq : ∀ sm : SemLoc sig, sm.isScoped .tc = false → sm = barS := by decide

set_option backward.isDefEq.respectTransparency.types false in
/-- From any memory with zero counters every execution on the four devices terminates, the arguments unchanged, every counter
    at zero, and each device's result block at `outAt`. -/
theorem run_main : θ_run defs (onTc (τ := τ) (main (F := F))) ⟨m, fun _ => 0, ρ⟩ (fun r => (∀ c : Dev nD,
      r.2.mem ((c.tc : Thread nD τ).loc main_v10) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_regions_kit_dev_sems (pcfgs (F := F)) adm (dats m) () cellOf_inj EP defs₀ 𝒱₀ L lv m ρ main
    (segs m 𝒱₀ L lv (E m) () (dats m) (R0 m))
    (fun c Q => by
      rewrite [main_chain c, Pipeline.Seg.run_eq_chain,
        show (segs m 𝒱₀ L lv (E m) () (dats m) (R0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_split _ _) $$ Hu
      icases H with ⟨HP, HX⟩
      imodintro
      isplitl [HP]; · iexact HP
      rw [bigSep_onDev]; iexact HX)
    (T₀ := T₀ m) (Tₙ := Tₙ m)
    (hch := fun c => by
      refine ⟨.rfl, reg_pre m c, (reg_post m c).trans ?_⟩
      unfold Rend
      show _ ⊢ iprop(Tₙ m c ∗ ∃ W, owes (c : Thread nD τ) (0 : CellTallies nD τ sig Unit) W)
      iintro ⟨Hh, Hb, HO⟩
      isplitr [HO]
      · isplitl [Hh] <;> iassumption
      · iexact HO)
    (hinit := init m ρ)
    (QY := fun c s => (∀ r : Ref sig .tc, Proc.devRef (τ := τ) .tc r ∈ Pipeline.ucRefs τ sig → s.mem ((c.tc : Thread nD τ).loc r) = V2 m (outs m) c r) ∧ s.sem (cell c barS) = 0)
    (hfin := fun c s' => by
      dsimp only [Tₙ]
      unfold StableHlo.held
      iintro ⟨⟨Hh, Hb⟩, HSI⟩
      icombine HSI Hb gives %hb
      ihave Hr := (pointsTo_read_all (Pipeline.ucRefs τ sig) (fun b => ((c : Thread nD τ).1, b)) (V2 m (outs m) c) s') $$ [Hh HSI]
      · isplitl [Hh] <;> iassumption
      icases Hr with ⟨%h, HSI⟩
      imodintro
      isplitr
      · ipureintro
        exact ⟨fun r hr => h (Proc.devRef .tc r) hr, by simpa using hb⟩
      · iexact HSI)
    (hQ := fun s h hs => ⟨fun c => by
        have h' := (h c).1
        exact ⟨(h' main_v10 (Finset.mem_filter.mpr ⟨StableHlo.devRef_mem_tcRefs main_v10, by decide⟩)).trans ((Function.update_self (Proc.devRef (τ := τ) .tc main_v10) (outs m 2 main_v10 c) (V1 m c)).trans (outs_eq m c)),
          (h' main_arg0 (Finset.mem_filter.mpr ⟨StableHlo.devRef_mem_tcRefs main_arg0, by decide⟩)).trans (V2_main_arg0 m (outs m) c),
          (h' main_arg1 (Finset.mem_filter.mpr ⟨StableHlo.devRef_mem_tcRefs main_arg1, by decide⟩)).trans (V2_main_arg1 m (outs m) c),
          (h' main_arg2 (Finset.mem_filter.mpr ⟨StableHlo.devRef_mem_tcRefs main_arg2, by decide⟩)).trans (V2_main_arg2 m (outs m) c),
          (h' main_arg3 (Finset.mem_filter.mpr ⟨StableHlo.devRef_mem_tcRefs main_arg3, by decide⟩)).trans (V2_main_arg3 m (outs m) c)⟩,
      sem_eq_zero hs fun c sm hsm => by
        obtain rfl := unscoped_eq sm hsm
        exact (h c).2⟩)

end Cert.KProof

end
-- ==== Proof.Frames.lean ====
module

public import proofs.«01_k».proof.Defs
public import proofs.«01_k».proof.Proof.Run
public import proofs.«01_k».proof.Proof.Gen.Kernel
public import proofs.«01_k».proof.Proof.Gen.Pre_top_two_clear_KernelIdeal

@[expose] public section

set_option backward.isDefEq.respectTransparency.types false
set_option maxRecDepth 100000

noncomputable section

namespace Cert.KProof

open Idealize.ShloMosaic Idealize.ShloMosaic.TcCoe Idealize.SL.Sem

/-- The program as printed has the mask's bits where the idealised one has its name: read at bits, a name is its bits. -/
abbrev namedBits : Named Bits := ⟨fun _ _ {φ} b => FloatOps.ofBits (F := Bits) φ b⟩

theorem frame_ideal : Cert.quiescent_KernelIdeal := fun m ρ _ =>
  (θ_run Cert.KernelIdeal.defs _ _).mono (fun _ h => ⟨fun c => (h.1 c).2, h.2⟩) (run_main (F := Ideal) m ρ)

theorem frame_ideal_pre : Cert.quiescent_KernelIdeal_pre_top_two_clear_KernelIdeal := fun m ρ _ => frame_ideal m ρ trivial

theorem frame_bits (m : (ℓ : Loc Cert.KernelIdeal.nD Cert.KernelIdeal.τ Cert.KernelIdeal.sig) → Buf (Elt Bits) ℓ) (ρ : Dev Cert.KernelIdeal.nD → PrngReg) :
    θ_run (@Cert.KernelIdeal.defs Bits _ namedBits _) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (@Cert.KernelIdeal.defs Bits _ namedBits _) _ _).mono (fun _ h => ⟨fun c => (h.1 c).2, h.2⟩) (@run_main Bits _ namedBits m ρ)

/-- The two programs' bodies are one, so are their body tables, their host programs and what is said of their buffers. -/
theorem body_eq : @Cert.Kernel.cc0_body Bits _ _ = @Cert.KernelIdeal.cc0_body Bits _ namedBits _ := rfl
theorem defs₀_eq : Cert.Kernel.defs₀ (F := Bits) = @Cert.KernelIdeal.defs₀ Bits _ namedBits _ := by
  unfold Cert.Kernel.defs₀ Cert.KernelIdeal.defs₀
  refine congrArg Defs.onTc (funext fun l => funext fun a => ?_)
  match l, a with
  | 0, (t, s) => rfl
theorem defs_eq : Cert.Kernel.defs (F := Bits) = @Cert.KernelIdeal.defs Bits _ namedBits _ := by
  unfold Cert.Kernel.defs Cert.KernelIdeal.defs
  rw [defs₀_eq]
  rfl

theorem frame_kernel : Cert.quiescent_Kernel := by
  unfold Cert.quiescent_Kernel
  rw [defs_eq]
  exact fun m ρ _ => frame_bits m ρ

end Cert.KProof

end
-- ==== Proof.Token.lean ====
module

public import Idealize.ShloMosaic.PureOps
public import Idealize.ShloMosaic.Lib.Pointwise
public import Idealize.ShloMosaic.Lib.SortFacts

@[expose] public section

noncomputable section

/-! What one token's row of the result is, over the extended reals: its gates, the largest and the second largest of
them, the weight the kernel gives an expert, and that these weights are the ones of a softmax over the two largest. -/

namespace Cert.Token

open Idealize.ShloMosaic

/-- The token's gate of an expert whose router column is `w`. -/
def gate (x w : Fin 512 → EReal) : EReal := ∑ k, x k * w k

/-- One expert's two layers applied to the token, at column `j`. -/
def ffn (x : Fin 512 → EReal) (u1 : Fin 512 → Fin 1024 → EReal) (u2 : Fin 1024 → Fin 512 → EReal) (j : Fin 512) : EReal :=
  ∑ h, max (∑ k, x k * u1 k h) 0 * u2 h j

/-- The four gates as a device has them: of its own router columns `r`, then of the other device's `q`. -/
def gates (x : Fin 512 → EReal) (r q : Fin 512 → Fin 2 → EReal) (e : Fin 4) : EReal :=
  if h : e.val < 2 then gate x fun k => r k ⟨e.val, h⟩ else gate x fun k => q k ⟨e.val - 2, by omega⟩

def top1 (g : Fin 4 → EReal) : EReal := Finset.univ.fold max ⊥ g
def top2 (g : Fin 4 → EReal) : EReal := Finset.univ.fold max ⊥ fun e => if g e = top1 g then ⊥ else g e

/-- The weight the kernel gives a gate `v` among the gates `g`. -/
def weight (g : Fin 4 → EReal) (v : EReal) : EReal :=
  if top2 g ≤ v then Ideal.div (Ideal.exp (v - top1 g)) (1 + Ideal.exp (top2 g - top1 g)) else 0

/-- The greatest of four, written as `max`'s fold, does not depend on their order. -/
theorem fold_perm (g : Fin 4 → EReal) (σ : Equiv.Perm (Fin 4)) :
    Finset.univ.fold max (⊥ : EReal) (fun e => g (σ e)) = Finset.univ.fold max (⊥ : EReal) g := by
  have h := Finset.fold_map (op := max) (b := (⊥ : EReal)) (f := g) (g := σ.toEmbedding) (s := Finset.univ)
  rw [Finset.map_univ_equiv] at h
  exact h.symm

theorem top1_perm (g : Fin 4 → EReal) (σ : Equiv.Perm (Fin 4)) : top1 (fun e => g (σ e)) = top1 g := fold_perm g σ

theorem top2_perm (g : Fin 4 → EReal) (σ : Equiv.Perm (Fin 4)) : top2 (fun e => g (σ e)) = top2 g := by
  unfold top2
  rw [top1_perm]
  exact fold_perm (fun e => if g e = top1 g then ⊥ else g e) σ

theorem weight_perm (g : Fin 4 → EReal) (σ : Equiv.Perm (Fin 4)) (v : EReal) : weight (fun e => g (σ e)) v = weight g v := by
  unfold weight
  rw [top1_perm, top2_perm]

/-- Of four numbers in falling order the greatest. -/
theorem top1_sorted {h : Fin 4 → EReal} (h01 : h 1 < h 0) (h12 : h 2 < h 1) (h23 : h 3 ≤ h 2) : top1 h = h 0 := by
  refine le_antisymm ?_ ?_
  · refine Finset.fold_max_le _ |>.mpr ⟨bot_le, fun e _ => ?_⟩
    fin_cases e
    · exact le_refl _
    · exact h01.le
    · exact (h12.trans h01).le
    · exact h23.trans (h12.trans h01).le
  · exact Finset.le_fold_max _ |>.mpr (.inr ⟨0, Finset.mem_univ _, le_refl _⟩)

/-- … and the second greatest. -/
theorem top2_sorted {h : Fin 4 → EReal} (h01 : h 1 < h 0) (h12 : h 2 < h 1) (h23 : h 3 ≤ h 2) : top2 h = h 1 := by
  unfold top2
  rw [top1_sorted h01 h12 h23]
  refine le_antisymm ?_ ?_
  · refine Finset.fold_max_le _ |>.mpr ⟨bot_le, fun e _ => ?_⟩
    fin_cases e
    · simp
    · show (if h 1 = h 0 then ⊥ else h 1) ≤ h 1
      rw [if_neg h01.ne]
    · show (if h 2 = h 0 then ⊥ else h 2) ≤ h 1
      rw [if_neg (h12.trans h01).ne]
      exact h12.le
    · show (if h 3 = h 0 then ⊥ else h 3) ≤ h 1
      rw [if_neg (h23.trans_lt (h12.trans h01)).ne]
      exact h23.trans h12.le
  · refine Finset.le_fold_max _ |>.mpr (.inr ⟨1, Finset.mem_univ _, ?_⟩)
    rw [if_neg h01.ne]

/-- The softmax weight, over the two values `a` and `b`, of the value `v`. -/
def soft (a b v : EReal) : EReal := Ideal.div (Ideal.exp (v - max a b)) (Ideal.exp (a - max a b) + Ideal.exp (b - max a b))

theorem exp_sub_self {a : EReal} (hb : a ≠ ⊥) (ht : a ≠ ⊤) : Ideal.exp (a - a) = 1 := by
  rw [EReal.sub_self ht hb]
  show ((Real.exp 0 : ℝ) : EReal) = 1
  rw [Real.exp_zero, EReal.coe_one]

/-- The weighted sum over the experts with the kernel's weights is the one over the two greatest with softmax weights: `s`
    lists the experts by falling gate. -/
theorem weighted_sum (g : Fin 4 → EReal) (s : Equiv.Perm (Fin 4)) (h01 : g (s 1) < g (s 0)) (h12 : g (s 2) < g (s 1))
    (h23 : g (s 3) ≤ g (s 2)) (ht : g (s 0) < ⊤) (c : Fin 4 → EReal) :
    ∑ e, c e * weight g (g e) = c (s 0) * soft (g (s 0)) (g (s 1)) (g (s 0)) + c (s 1) * soft (g (s 0)) (g (s 1)) (g (s 1)) := by
  have t1 : top1 g = g (s 0) := (top1_perm g s).symm.trans (top1_sorted h01 h12 h23)
  have t2 : top2 g = g (s 1) := (top2_perm g s).symm.trans (top2_sorted h01 h12 h23)
  have hb : g (s 0) ≠ ⊥ := (bot_le.trans_lt h01).ne'
  have e1 := exp_sub_self hb ht.ne
  have hm : max (g (s 0)) (g (s 1)) = g (s 0) := max_eq_left h01.le
  have w0 : weight g (g (s 0)) = soft (g (s 0)) (g (s 1)) (g (s 0)) := by
    unfold weight soft
    rw [t1, t2, if_pos h01.le, hm, e1]
  have w1 : weight g (g (s 1)) = soft (g (s 0)) (g (s 1)) (g (s 1)) := by
    unfold weight soft
    rw [t1, t2, if_pos le_rfl, hm, e1]
  have w2 : weight g (g (s 2)) = 0 := by
    unfold weight
    rw [t2, if_neg (not_le.mpr h12)]
  have w3 : weight g (g (s 3)) = 0 := by
    unfold weight
    rw [t2, if_neg (not_le.mpr (h23.trans_lt h12))]
  rw [← Equiv.sum_comp s, Fin.sum_univ_four, w0, w1, w2, w3, mul_zero, mul_zero, add_zero, add_zero]

/-- The same sum as the reference adds it up: over the two ranks and the four experts, the expert's term where it has that rank. -/
theorem ranked_sum (s : Equiv.Perm (Fin 4)) (c : Fin 4 → EReal) (p0 p1 : EReal) :
    ((((((((0 + if s 0 = 0 then c 0 * p0 else 0) + if s 0 = 1 then c 1 * p0 else 0) + if s 0 = 2 then c 2 * p0 else 0)
        + if s 0 = 3 then c 3 * p0 else 0) + if s 1 = 0 then c 0 * p1 else 0) + if s 1 = 1 then c 1 * p1 else 0)
        + if s 1 = 2 then c 2 * p1 else 0) + if s 1 = 3 then c 3 * p1 else 0) = c (s 0) * p0 + c (s 1) * p1 := by
  generalize s 0 = a
  generalize s 1 = b
  fin_cases a <;> fin_cases b <;> simp

/-- The permutation a stable sort of four gates by falling value follows. -/
def order (g : Fin 4 → EReal) : Fin 4 → Fin 4 := sortedFrom fun k k' => FloatOps.cmpfTotal (F := Ideal) (φ := .f32) .gt (g k) (g k') == 1#1

def orderPerm (g : Fin 4 → EReal) : Equiv.Perm (Fin 4) :=
  Equiv.ofBijective (order g) ⟨sortedFrom_injective _, sortedFrom_surjective _⟩

theorem gt_iff (a b : EReal) : (FloatOps.cmpfTotal (F := Ideal) (φ := .f32) .gt a b == 1#1) = decide (b < a) := by
  show (BitVec.ofBool (decide (b < a)) == 1#1) = _
  cases decide (b < a) <;> rfl

theorem order_antitone (g : Fin 4 → EReal) (i j : Fin 4) (h : i < j) : g (order g j) ≤ g (order g i) := by
  have hp := pairwise_stableSort (fun k k' => FloatOps.cmpfTotal (F := Ideal) (φ := .f32) .gt (g k) (g k') == 1#1)
    (fun k k' => FloatOps.cmpfTotal (F := Ideal) (φ := .f32) .gt (g k) (g k') == 1#1)
    (fun a b => by simp only [gt_iff, decide_eq_true_eq, decide_eq_false_iff_not, not_lt]; exact le_of_lt)
    (fun _ _ h => h)
    (fun a b c => by simp only [gt_iff, decide_eq_false_iff_not, not_lt]; exact fun h1 h2 => h1.trans h2)
    (List.finRange 4)
  rw [List.pairwise_iff_get] at hp
  have := hp (i.cast (length_sortPositions 4 _).symm) (j.cast (length_sortPositions 4 _).symm) h
  simp only [gt_iff, decide_eq_false_iff_not, not_lt] at this
  exact this

end Cert.Token

end
-- ==== Proof.KVal.lean ====
module

public import proofs.«01_k».proof.Proof.Gen.KernelIdeal.Skeleton
public import proofs.«01_k».proof.Proof.Body
public import proofs.«01_k».proof.Proof.Token
public import Idealize.ShloMosaic.Lib.Pointwise

@[expose] public section

set_option maxRecDepth 16384

noncomputable section

/-! What the kernel's payloads hold at an index, over the extended reals. -/

namespace Cert.KProof

open Cert.KernelIdeal Cert.KernelIdeal.Gen Cert.Token
open Idealize.ShloMosaic

/-- A row of a block, and an expert's matrix, by their coordinates. -/
def rowAt {n : ℕ} (a : (⟨2, ![n, 512]⟩ : Shape).Idx → EReal) (i : Fin n) : Fin 512 → EReal := fun k => a (ix2 i k)
def colsOf (r : S512x2.Idx → EReal) : Fin 512 → Fin 2 → EReal := fun k e => r (ix2 k e)
def mat1 (u : S1x512x1024.Idx → EReal) : Fin 512 → Fin 1024 → EReal := fun k h => u (ix3 0 k h)
def mat2 (u : S1x1024x512.Idx → EReal) : Fin 1024 → Fin 512 → EReal := fun h j => u (ix3 0 h j)

theorem neg_inf : Ideal.ofBits FTy.f32 4286578688#32 = ⊥ := by simp [Ideal.ofBits, Ideal.ieee]

theorem mask_bot : (Named.named κ "mask" 4048155338#32 : Ideal .f32) = (⊥ : EReal) := rfl

theorem pay7_at (a : Vec Ideal S128x512 .bf16) (r q : Vec Ideal S512x2 .f32) (i : Fin 128) (e : Fin 4) :
    k0_pay7 a r q (ix2 i e) = gates (rowAt a i) (colsOf r) (colsOf q) e := by
  pointwise [k0_pay7, k0_pay6, k0_pay5]
  rfl

theorem pay6_at0 (a : Vec Ideal S128x512 .bf16) (r q : Vec Ideal S512x2 .f32) (i : Fin 128) :
    k0_pay6 a r (ix2 i 0) = gates (rowAt a i) (colsOf r) (colsOf q) 0 := by
  pointwise [k0_pay6, k0_pay5]
  rfl
theorem pay6_at1 (a : Vec Ideal S128x512 .bf16) (r q : Vec Ideal S512x2 .f32) (i : Fin 128) :
    k0_pay6 a r (ix2 i 1) = gates (rowAt a i) (colsOf r) (colsOf q) 1 := by
  pointwise [k0_pay6, k0_pay5]
  rfl

theorem pay8_at (a : Vec Ideal S128x512 .bf16) (r q : Vec Ideal S512x2 .f32) (i : Fin 128) :
    k0_pay8 a r q (ix2 i 0) = top1 (gates (rowAt a i) (colsOf r) (colsOf q)) := by
  pointwise [k0_pay8]
  simp only [pay7_at, neg_inf]
  rfl

theorem pay10_at (a : Vec Ideal S128x512 .bf16) (r q : Vec Ideal S512x2 .f32) (i : Fin 128) :
    k0_pay10 (k0_pay9 a r q) (ix2 i 0) = top2 (gates (rowAt a i) (colsOf r) (colsOf q)) := by
  pointwise [k0_pay10, k0_pay9]
  simp only [pay7_at, pay8_at, neg_inf, mask_bot]
  rfl

theorem pay15_at (a : Vec Ideal S128x512 .bf16) (r q : Vec Ideal S512x2 .f32) (i : Fin 128) (j : Fin 512) :
    k0_pay15 (k0_pay6 a r) (k0_pay8 a r q) (k0_pay9 a r q) (ix2 i j)
      = weight (gates (rowAt a i) (colsOf r) (colsOf q)) (gates (rowAt a i) (colsOf r) (colsOf q) 0) := by
  pointwise [k0_pay15, k0_pay11]
  simp only [pay10_at, pay8_at, pay6_at0 a r q]
  rfl

theorem pay12_at (a : Vec Ideal S128x512 .bf16) (r q : Vec Ideal S512x2 .f32) (i : Fin 128) :
    k0_pay12 (k0_pay6 a r) (k0_pay8 a r q) (k0_pay9 a r q) (ix2 i 0)
      = weight (gates (rowAt a i) (colsOf r) (colsOf q)) (gates (rowAt a i) (colsOf r) (colsOf q) 1) := by
  pointwise [k0_pay12, k0_pay11]
  simp only [pay10_at, pay8_at, pay6_at1 a r q]
  rfl

theorem pay13_at (a : FVec Ideal S128x512 .f32) (u1 : Vec Ideal S1x512x1024 .f32) (u2 : Vec Ideal S1x1024x512 .f32) (i : Fin 128) (j : Fin 512) :
    k0_pay13 a u1 u2 (ix2 i j) = ffn (rowAt a i) (mat1 u1) (mat2 u2) j := by
  pointwise [k0_pay13]
  rfl
theorem pay14_at (a : FVec Ideal S128x512 .f32) (u1 : Vec Ideal S1x512x1024 .f32) (u2 : Vec Ideal S1x1024x512 .f32) (i : Fin 128) (j : Fin 512) :
    k0_pay14 a u1 u2 (ix2 i j) = ffn (rowAt a i) (mat1 u1) (mat2 u2) j := by
  pointwise [k0_pay14]
  rfl

/-- Two experts' weighted contribution to a token: `r` their router columns, `q` the other two's. -/
def pair (x : Fin 512 → EReal) (r q : Fin 512 → Fin 2 → EReal) (u1 v1 : Fin 512 → Fin 1024 → EReal) (u2 v2 : Fin 1024 → Fin 512 → EReal)
    (j : Fin 512) : EReal :=
  ffn x u1 u2 j * weight (gates x r q) (gates x r q 0) + ffn x v1 v2 j * weight (gates x r q) (gates x r q 1)

theorem chunk0_at (a : Vec Ideal S128x512 .bf16) (r q : Vec Ideal S512x2 .f32) (u1 : Vec Ideal S1x512x1024 .f32) (u2 : Vec Ideal S1x1024x512 .f32)
    (v1 : Vec Ideal S1x512x1024 .f32) (v2 : Vec Ideal S1x1024x512 .f32) (i : Fin 128) (j : Fin 512) :
    chunk0 a r q u1 u2 v1 v2 (ix2 i j) = pair (rowAt a i) (colsOf r) (colsOf q) (mat1 u1) (mat1 v1) (mat2 u2) (mat2 v2) j := by
  unfold chunk0
  pointwise [k0_pay16, k0_pay5]
  simp only [pay12_at, pay15_at, pay13_at, pay14_at]
  rfl

/-! The second chunk, whose payloads are cut elsewhere. -/

theorem pay19_at (a : Vec Ideal S128x512 .bf16) (r q : Vec Ideal S512x2 .f32) (i : Fin 128) (e : Fin 4) :
    k0_pay19 a r q (ix2 i e) = gates (rowAt a i) (colsOf r) (colsOf q) e := by
  pointwise [k0_pay19, k0_pay18, k0_pay17]
  rfl
theorem pay18_at0 (a : Vec Ideal S128x512 .bf16) (r q : Vec Ideal S512x2 .f32) (i : Fin 128) :
    k0_pay18 a r (ix2 i 0) = gates (rowAt a i) (colsOf r) (colsOf q) 0 := by
  pointwise [k0_pay18, k0_pay17]
  rfl
theorem pay18_at1 (a : Vec Ideal S128x512 .bf16) (r q : Vec Ideal S512x2 .f32) (i : Fin 128) :
    k0_pay18 a r (ix2 i 1) = gates (rowAt a i) (colsOf r) (colsOf q) 1 := by
  pointwise [k0_pay18, k0_pay17]
  rfl
theorem pay20_at (a : Vec Ideal S128x512 .bf16) (r q : Vec Ideal S512x2 .f32) (i : Fin 128) :
    k0_pay20 a r q (ix2 i 0) = top1 (gates (rowAt a i) (colsOf r) (colsOf q)) := by
  pointwise [k0_pay20]
  simp only [pay19_at, neg_inf]
  rfl
theorem pay21_at (a : Vec Ideal S128x512 .bf16) (r q : Vec Ideal S512x2 .f32) (i : Fin 128) :
    k0_pay21 a r q (ix2 i 0) = top2 (gates (rowAt a i) (colsOf r) (colsOf q)) := by
  pointwise [k0_pay21]
  simp only [pay19_at, pay20_at, neg_inf, mask_bot]
  rfl
theorem pay23_at (a : Vec Ideal S128x512 .bf16) (r q : Vec Ideal S512x2 .f32) (i : Fin 128) :
    k0_pay23 a r q (ix2 i 0) = weight (gates (rowAt a i) (colsOf r) (colsOf q)) (gates (rowAt a i) (colsOf r) (colsOf q) 0) := by
  pointwise [k0_pay23, k0_pay22]
  simp only [pay20_at, pay21_at, pay18_at0 a r q]
  rfl
theorem pay24_at (a : Vec Ideal S128x512 .bf16) (r q : Vec Ideal S512x2 .f32) (i : Fin 128) :
    k0_pay24 a r q (ix2 i 0) = weight (gates (rowAt a i) (colsOf r) (colsOf q)) (gates (rowAt a i) (colsOf r) (colsOf q) 1) := by
  pointwise [k0_pay24, k0_pay22]
  simp only [pay20_at, pay21_at, pay18_at1 a r q]
  rfl

theorem chunk1_at (a : Vec Ideal S128x512 .bf16) (r q : Vec Ideal S512x2 .f32) (u1 : Vec Ideal S1x512x1024 .f32) (u2 : Vec Ideal S1x1024x512 .f32)
    (v1 : Vec Ideal S1x512x1024 .f32) (v2 : Vec Ideal S1x1024x512 .f32) (i : Fin 128) (j : Fin 512) :
    chunk1 a r q u1 u2 v1 v2 (ix2 i j) = pair (rowAt a i) (colsOf r) (colsOf q) (mat1 u1) (mat1 v1) (mat2 u2) (mat2 v2) j := by
  unfold chunk1
  pointwise [k0_pay27, k0_pay25, k0_pay26, k0_pay17]
  simp only [pay23_at, pay24_at]
  rfl

/-! The device's own rows, all 256 at once. -/

theorem pay30_at (a : Vec Ideal S256x512 .f32) (r q : Vec Ideal S512x2 .f32) (i : Fin 256) (e : Fin 4) :
    k0_pay30 a r q (ix2 i e) = gates (rowAt a i) (colsOf r) (colsOf q) e := by
  pointwise [k0_pay30, k0_pay29]
  rfl
theorem pay29_at0 (a : Vec Ideal S256x512 .f32) (r q : Vec Ideal S512x2 .f32) (i : Fin 256) :
    k0_pay29 a r (ix2 i 0) = gates (rowAt a i) (colsOf r) (colsOf q) 0 := by
  pointwise [k0_pay29]
  rfl
theorem pay29_at1 (a : Vec Ideal S256x512 .f32) (r q : Vec Ideal S512x2 .f32) (i : Fin 256) :
    k0_pay29 a r (ix2 i 1) = gates (rowAt a i) (colsOf r) (colsOf q) 1 := by
  pointwise [k0_pay29]
  rfl
theorem pay31_at (a : Vec Ideal S256x512 .f32) (r q : Vec Ideal S512x2 .f32) (i : Fin 256) :
    k0_pay31 a r q (ix2 i 0) = top1 (gates (rowAt a i) (colsOf r) (colsOf q)) := by
  pointwise [k0_pay31]
  simp only [pay30_at, neg_inf]
  rfl
theorem pay32_at (a : Vec Ideal S256x512 .f32) (r q : Vec Ideal S512x2 .f32) (i : Fin 256) :
    k0_pay32 a r q (ix2 i 0) = top2 (gates (rowAt a i) (colsOf r) (colsOf q)) := by
  pointwise [k0_pay32]
  simp only [pay30_at, pay31_at, neg_inf, mask_bot]
  rfl
theorem pay35_at (a : Vec Ideal S256x512 .f32) (r q : Vec Ideal S512x2 .f32) (i : Fin 256) (j : Fin 512) :
    k0_pay35 a r q (ix2 i j) = weight (gates (rowAt a i) (colsOf r) (colsOf q)) (gates (rowAt a i) (colsOf r) (colsOf q) 1) := by
  pointwise [k0_pay35, k0_pay33]
  simp only [pay31_at, pay32_at, pay29_at1 a r q]
  rfl
theorem pay34_at (a : Vec Ideal S256x512 .f32) (r q : Vec Ideal S512x2 .f32) (u1 : Vec Ideal S1x512x1024 .f32) (u2 : Vec Ideal S1x1024x512 .f32)
    (i : Fin 256) (j : Fin 512) :
    k0_pay34 a (k0_pay3 a u1) u2 r q (ix2 i j) = ffn (rowAt a i) (mat1 u1) (mat2 u2) j
      * weight (gates (rowAt a i) (colsOf r) (colsOf q)) (gates (rowAt a i) (colsOf r) (colsOf q) 0) := by
  pointwise [k0_pay34, k0_pay33, k0_pay3]
  simp only [pay31_at, pay32_at, pay29_at0 a r q]
  rfl

theorem own_at (a : Vec Ideal S256x512 .f32) (r q : Vec Ideal S512x2 .f32) (u1 : Vec Ideal S1x512x1024 .f32) (u2 : Vec Ideal S1x1024x512 .f32)
    (v1 : Vec Ideal S1x512x1024 .f32) (v2 : Vec Ideal S1x1024x512 .f32) (i : Fin 256) (j : Fin 512) :
    own a r q u1 u2 v1 v2 (ix2 i j) = pair (rowAt a i) (colsOf r) (colsOf q) (mat1 u1) (mat1 v1) (mat2 u2) (mat2 v2) j := by
  unfold own
  pointwise [k0_pay36, k0_pay28, k0_pay4]
  simp only [pay34_at, pay35_at]
  rfl

end Cert.KProof

end
-- ==== Proof.KBlocks.lean ====
module

public import proofs.«01_k».proof.Proof.KVal
public import proofs.«01_k».proof.Proof.Region
public import Idealize.ShloMosaic.Lib.Layout

@[expose] public section

set_option maxRecDepth 16384

noncomputable section

/-! Where the kernel's loads and blocks read from, by coordinates. -/

namespace Cert.KProof

open Cert.KernelIdeal Cert.KernelIdeal.Gen Cert.Token
open Idealize.ShloMosaic Idealize.ShloMosaic.TcCoe Idealize.ShloMosaic.StableHlo

/-- The first half's rows are the block's first 128, the second half's the rest. -/
theorem rows0_at (f : (⟨S256x512, .bf16⟩ : BufTy).Contents (Elt Ideal)) (i : Fin 128) : rowAt (rows0 f) i = rowAt f (i.castLE (by decide)) := by
  funext k
  refine congrArg f (funext fun a => Fin.ext ?_)
  fin_cases a <;> (show _ + 1 * _ = _; simp [ix2])

theorem rows1_at (f : (⟨S256x512, .bf16⟩ : BufTy).Contents (Elt Ideal)) (i : Fin 128) : rowAt (rows1 f) i = rowAt f (i.natAdd 128) := by
  funext k
  refine congrArg f (funext fun a => Fin.ext ?_)
  fin_cases a <;> (show _ + 1 * _ = _; simp [ix2, Nat.add_comm])

/-- Over the reals the cast of the rows that are sent changes nothing. -/
theorem pay2_eq (X : Vec Ideal S256x512 .f32) : k0_pay2 X = X := by
  funext j
  pointwise [k0_pay2]

/-- The two chunks of contributions, read out of the whole buffer. -/
theorem cs0_at (f : (⟨S256x512, .bf16⟩ : BufTy).Contents (Elt Ideal)) (i : Fin 128) (j : Fin 512) :
    cs0.view.read (Elt Ideal) f (ix2 i j) = f (ix2 (i.castLE (by decide)) j) := by
  refine congrArg f (funext fun a => Fin.ext ?_)
  fin_cases a <;> (show _ + 1 * _ = _; simp [ix2])

theorem cs1_at (f : (⟨S256x512, .bf16⟩ : BufTy).Contents (Elt Ideal)) (i : Fin 128) (j : Fin 512) :
    cs1.view.read (Elt Ideal) f (ix2 i j) = f (ix2 (i.natAdd 128) j) := by
  refine congrArg f (funext fun a => Fin.ext ?_)
  fin_cases a <;> (show _ + 1 * _ = _; simp [ix2, Nat.add_comm])

/-- The matrices of a device's two experts. -/
theorem w1at0_eq (w : (⟨S2x512x1024, .f32⟩ : BufTy).Contents (Elt Ideal)) : mat1 (w1at0 w) = fun k h => w (ix3 0 k h) := by
  funext k h
  refine congrArg w (funext fun a => Fin.ext ?_)
  fin_cases a <;> (show _ + 1 * _ = _; simp [ix3])

theorem w1at1_eq (w : (⟨S2x512x1024, .f32⟩ : BufTy).Contents (Elt Ideal)) : mat1 (w1at1 w) = fun k h => w (ix3 1 k h) := by
  funext k h
  refine congrArg w (funext fun a => Fin.ext ?_)
  fin_cases a <;> (show _ + 1 * _ = _; simp [ix3])

theorem w2at0_eq (w : (⟨S2x1024x512, .f32⟩ : BufTy).Contents (Elt Ideal)) : mat2 (w2at0 w) = fun h j => w (ix3 0 h j) := by
  funext k h
  refine congrArg w (funext fun a => Fin.ext ?_)
  fin_cases a <;> (show _ + 1 * _ = _; simp [ix3])

theorem w2at1_eq (w : (⟨S2x1024x512, .f32⟩ : BufTy).Contents (Elt Ideal)) : mat2 (w2at1 w) = fun h j => w (ix3 1 h j) := by
  funext k h
  refine congrArg w (funext fun a => Fin.ext ?_)
  fin_cases a <;> (show _ + 1 * _ = _; simp [ix3])

variable {m : (ℓ : Loc nD τ sig) → Buf (Elt Ideal) ℓ}

/-- Device `c`'s router operand: its two experts' columns of the whole router. -/
theorem V1_cols (c : Dev nD) : V1 m c main_v9
    = Host.dynamicSlice S512x2 (m ((c : Thread nD τ).loc main_arg1)) ![(0 : Int), (2 * (c.val / 2) : Nat)] sliceFits_S512x4_S512x2 := by
  unfold V1
  simp only [hostOps0]
  after_results_simp
  refine congrArg (fun f => Host.dynamicSlice S512x2 (m ((c : Thread nD τ).loc main_arg1)) f sliceFits_S512x4_S512x2) (funext fun k => ?_)
  fin_cases k
  · simp only [Fin.zero_eta, Matrix.cons_val_zero]
    after_results_simp
    rfl
  · show BitVec.toInt ((HloOp.result _ _ : Valuation τ sig (Elt Ideal)) (Proc.tc.devRef main_v8) (Shape.Idx.first h_S_)) = ((2 * (c.val / 2) : Nat) : Int)
    after_results_simp
    fin_cases c <;> rfl

/-- … by coordinates. -/
theorem cols_at (c : Dev nD) (k : Fin 512) (e : Fin 2) : V1 m c main_v9 (ix2 k e)
    = m ((c : Thread nD τ).loc main_arg1) (ix2 k ⟨2 * (c.val / 2) + e.val, by have := c.isLt; have := e.isLt; simp only [nD] at *; omega⟩) := by
  rw [V1_cols]
  refine congrArg (m ((c : Thread nD τ).loc main_arg1)) (funext fun a => Fin.ext ?_)
  fin_cases c <;> fin_cases a <;> (show Nat.add _ _ = _; simp [ix2]) <;> rfl

end Cert.KProof

end
-- ==== Proof.Whole.lean ====
module

public import proofs.«01_k».proof.Proof.Token

@[expose] public section

noncomputable section

/-! The whole arrays' token, gates and experts, which the device blocks and the reference are both read as. -/

namespace Cert.Token

open Idealize.ShloMosaic

/-- Token `t`'s gate of expert `E`. -/
def gAll (X : (⟨2, ![512, 512]⟩ : Shape).Idx → EReal) (R : (⟨2, ![512, 4]⟩ : Shape).Idx → EReal) (t : Fin 512) (E : Fin 4) : EReal :=
  gate (fun k => X (ix2 t k)) fun k => R (ix2 k E)

/-- Expert `E` applied to token `t`, at column `j`. -/
def fAll (X : (⟨2, ![512, 512]⟩ : Shape).Idx → EReal) (A1 : (⟨3, ![4, 512, 1024]⟩ : Shape).Idx → EReal)
    (A2 : (⟨3, ![4, 1024, 512]⟩ : Shape).Idx → EReal) (t j : Fin 512) (E : Fin 4) : EReal :=
  ffn (fun k => X (ix2 t k)) (fun k h => A1 (ix3 E k h)) (fun h l => A2 (ix3 E h l)) j

end Cert.Token

end
-- ==== Proof.KOut.lean ====
module

public import proofs.«01_k».proof.Proof.KBlocks
public import proofs.«01_k».proof.Proof.Whole

@[expose] public section

set_option maxRecDepth 16384

noncomputable section

/-! A device's result block as the weighted sum over the four experts. -/

namespace Cert.KProof

open Cert.KernelIdeal Cert.KernelIdeal.Gen Cert.Token
open Idealize.ShloMosaic Idealize.ShloMosaic.TcCoe

variable {m : (ℓ : Loc nD τ sig) → Buf (Elt Ideal) ℓ}
variable {X : (⟨2, ![512, 512]⟩ : Shape).Idx → EReal} {R : (⟨2, ![512, 4]⟩ : Shape).Idx → EReal}
variable {A1 : (⟨3, ![4, 512, 1024]⟩ : Shape).Idx → EReal} {A2 : (⟨3, ![4, 1024, 512]⟩ : Shape).Idx → EReal}

/-- Row `i` of device `c`'s block, in the whole array. -/
def tok (c : Dev nD) (i : Fin 256) : Fin 512 :=
  ⟨256 * (c.val / 2) + i.val, by have := c.isLt; have := i.isLt; simp only [nD] at *; omega⟩
/-- Expert `e` of device `c`'s two, among the four. -/
def expt (c : Dev nD) (e : Fin 2) : Fin 4 :=
  ⟨2 * (c.val / 2) + e.val, by have := c.isLt; have := e.isLt; simp only [nD] at *; omega⟩
/-- The four experts in the order in which device `c` has them: its own two first. -/
def turn (c : Dev nD) : Equiv.Perm (Fin 4) := Equiv.addRight (expt c 0)

theorem turn_zero (c : Dev nD) : turn c 0 = expt c 0 := by revert c; decide
theorem turn_one (c : Dev nD) : turn c 1 = expt c 1 := by revert c; decide

/-- The memory holds the blocks of the whole arrays. -/
structure Laid (m : (ℓ : Loc nD τ sig) → Buf (Elt Ideal) ℓ) (X : (⟨2, ![512, 512]⟩ : Shape).Idx → EReal)
    (R : (⟨2, ![512, 4]⟩ : Shape).Idx → EReal) (A1 : (⟨3, ![4, 512, 1024]⟩ : Shape).Idx → EReal)
    (A2 : (⟨3, ![4, 1024, 512]⟩ : Shape).Idx → EReal) : Prop where
  x : ∀ (c : Dev nD) (i : Fin 256) (k : Fin 512), m ((c : Thread nD τ).loc main_arg0) (ix2 i k) = X (ix2 (tok c i) k)
  r : ∀ c : Dev nD, m ((c : Thread nD τ).loc main_arg1) = R
  w1 : ∀ (c : Dev nD) (e : Fin 2) (k : Fin 512) (h : Fin 1024), m ((c : Thread nD τ).loc main_arg2) (ix3 e k h) = A1 (ix3 (expt c e) k h)
  w2 : ∀ (c : Dev nD) (e : Fin 2) (h : Fin 1024) (j : Fin 512), m ((c : Thread nD τ).loc main_arg3) (ix3 e h j) = A2 (ix3 (expt c e) h j)

/-- A token's four gates, as device `c` has them, are the whole array's in device `c`'s order. -/
theorem gates_whole (L : Laid m X R A1 A2) (c : Dev nD) (t : Fin 512) :
    gates (fun k => X (ix2 t k)) (colsOf (V1 m c main_v9)) (colsOf (V1 m (peer c) main_v9)) = fun e => gAll X R t (turn c e) := by
  have h : ∀ (d : Dev nD) (k : Fin 512) (e : Fin 2), colsOf (V1 m d main_v9) k e = R (ix2 k (expt d e)) := fun d k e =>
    (cols_at d k e).trans (congrFun (L.r d) _)
  funext e
  unfold gates gAll
  simp only [h]
  fin_cases c <;> fin_cases e <;> rfl

/-- What device `c`'s two experts contribute to token `t`. -/
theorem pair_whole (L : Laid m X R A1 A2) (c : Dev nD) (t : Fin 512) (j : Fin 512) :
    pair (fun k => X (ix2 t k)) (colsOf (V1 m c main_v9)) (colsOf (V1 m (peer c) main_v9))
        (mat1 (w1at0 (V1 m c main_arg2))) (mat1 (w1at1 (V1 m c main_arg2))) (mat2 (w2at0 (V1 m c main_arg3))) (mat2 (w2at1 (V1 m c main_arg3))) j
      = fAll X A1 A2 t j (expt c 0) * weight (gAll X R t) (gAll X R t (expt c 0))
        + fAll X A1 A2 t j (expt c 1) * weight (gAll X R t) (gAll X R t (expt c 1)) := by
  have h2 : V1 m c main_arg2 = m ((c : Thread nD τ).loc main_arg2) := V1_of m c main_arg2 (by decide)
  have h3 : V1 m c main_arg3 = m ((c : Thread nD τ).loc main_arg3) := V1_of m c main_arg3 (by decide)
  unfold pair
  rw [gates_whole L, weight_perm (gAll X R t) (turn c), weight_perm (gAll X R t) (turn c), w1at0_eq, w1at1_eq, w2at0_eq, w2at1_eq, h2, h3]
  simp only [L.w1, L.w2]
  rw [turn_zero, turn_one]
  rfl

theorem x_row (L : Laid m X R A1 A2) (c : Dev nD) (i : Fin 256) : rowAt (V1 m c main_arg0) i = fun k => X (ix2 (tok c i) k) := by
  have h : V1 m c main_arg0 = m ((c : Thread nD τ).loc main_arg0) := V1_of m c main_arg0 (by decide)
  rw [h]
  funext k
  exact L.x c i k

/-- What device `c` sends back: its two experts' contributions to its peer's rows. -/
theorem ctr_whole (L : Laid m X R A1 A2) (c : Dev nD) (i : Fin 256) (j : Fin 512) :
    (Tm m).cb c (ix2 i j) = fAll X A1 A2 (tok (peer c) i) j (expt c 0) * weight (gAll X R (tok (peer c) i)) (gAll X R (tok (peer c) i) (expt c 0))
        + fAll X A1 A2 (tok (peer c) i) j (expt c 1) * weight (gAll X R (tok (peer c) i)) (gAll X R (tok (peer c) i) (expt c 1)) := by
  rw [← pair_whole L]
  induction i using Fin.addCases (m := 128) (n := 128) with
  | left i =>
    refine (cs0_at ((Tm m).cb c) i j).symm.trans ?_
    rw [cb_read0]
    unfold ctr0
    rw [chunk0_at, rows0_at, pay2_eq, rblk_eq, rblk_eq, x_row L]
    rfl
  | right i =>
    refine (cs1_at ((Tm m).cb c) i j).symm.trans ?_
    rw [cb_read1]
    unfold ctr1
    rw [chunk1_at, rows1_at, pay2_eq, rblk_eq, rblk_eq, x_row L]

theorem pay1_at (a : FVec Ideal S256x512 .f32) (b : (⟨S256x512, .bf16⟩ : BufTy).Contents (Elt Ideal)) (i : Fin 256) (j : Fin 512) :
    k0_pay1 a b (ix2 i j) = (a (ix2 i j) + b (ix2 i j) : EReal) := by
  pointwise [k0_pay1]

/-- A device's two experts and its peer's two are the four. -/
theorem both_halves (f : Fin 4 → EReal) (c : Dev nD) :
    f (expt c 0) + f (expt c 1) + (f (expt (peer c) 0) + f (expt (peer c) 1)) = f 0 + f 1 + f 2 + f 3 := by
  have lo : f 0 + f 1 + (f 2 + f 3) = f 0 + f 1 + f 2 + f 3 := (add_assoc _ _ _).symm
  have hi : f 2 + f 3 + (f 0 + f 1) = f 0 + f 1 + f 2 + f 3 := (add_comm _ _).trans lo
  fin_cases c
  · exact lo
  · exact lo
  · exact hi
  · exact hi

/-- A device's result: for each of its tokens the sum over all four experts, with the kernel's weights. -/
theorem out_whole (L : Laid m X R A1 A2) (c : Dev nD) (i : Fin 256) (j : Fin 512) :
    outAt m c (ix2 i j) = ∑ E, fAll X A1 A2 (tok c i) j E * weight (gAll X R (tok c i)) (gAll X R (tok c i) E) := by
  unfold outAt result
  rw [pay1_at, own_at, ctr_whole L, peer_peer, rblk_eq, rblk_eq, x_row L, pair_whole L, Fin.sum_univ_four]
  exact both_halves (fun E => fAll X A1 A2 (tok c i) j E * weight (gAll X R (tok c i)) (gAll X R (tok c i) E)) c

end Cert.KProof

end
-- ==== Proof.RefVal.lean ====
module

public import proofs.«01_k».proof.Proof.Gen.ReferenceIdeal.Run
public import proofs.«01_k».proof.Proof.Whole
public import Idealize.ShloMosaic.Lib.Pointwise

@[expose] public section

set_option maxRecDepth 16384

noncomputable section

/-! What the reference holds at an index, over the extended reals. -/

namespace Cert.RProof

open Cert.Token Idealize.ShloMosaic

/-- A stable descending sort along the columns of `n` rows of four, at an index: the row's values in the order `order` gives. -/
theorem topK_at {n k : ℕ} (g : FVec Ideal ⟨2, ![n, 4]⟩ .f32) (h : (⟨2, ![n, 4]⟩ : Shape).Slices (fun _ => 0) ⟨2, ![n, k]⟩)
    (i : Fin n) (e : Fin k) (e' : Fin 4) (he : e'.val = e.val) :
    (Host.topK (⟨2, ![n, k]⟩ : Shape) 1 (FloatOps.cmpfTotal (F := Ideal) (φ := .f32) .gt) g h).1 (ix2 i e)
        = g (ix2 i (order (fun a => g (ix2 i a)) e'))
      ∧ (Host.topK (⟨2, ![n, k]⟩ : Shape) 1 (FloatOps.cmpfTotal (F := Ideal) (φ := .f32) .gt) g h).2 (ix2 i e)
        = BitVec.ofNat 32 (order (fun a => g (ix2 i a)) e').val := by
  have al : Shape.Idx.along (s := ⟨2, ![n, 4]⟩) (ix2 i e') (1 : Fin 2) = fun b => ix2 i b :=
    funext fun b => funext fun x => by fin_cases x <;> rfl
  have sl : ∀ {α : Type} (x : (⟨2, ![n, 4]⟩ : Shape).Idx → α), extractStridedSlice ⟨2, ![n, k]⟩ (fun _ => 0) x h (ix2 i e) = x (ix2 i e') :=
    fun x => congrArg x (funext fun y => Fin.ext (by
      fin_cases y
      · exact Nat.zero_add _
      · exact (Nat.zero_add _).trans he.symm))
  have two : (1 : ℕ) < (⟨2, ![n, 4]⟩ : Shape).rank := Nat.one_lt_two
  unfold Host.topK Host.sort2
  simp only [dif_pos two, sl]
  constructor
  · show g (Shape.Idx.along (s := ⟨2, ![n, 4]⟩) (ix2 i e') (1 : Fin 2) (sortedFrom (fun k k' =>
      FloatOps.cmpfTotal (F := Ideal) (φ := .f32) .gt (g (Shape.Idx.along (s := ⟨2, ![n, 4]⟩) (ix2 i e') (1 : Fin 2) k))
        (g (Shape.Idx.along (s := ⟨2, ![n, 4]⟩) (ix2 i e') (1 : Fin 2) k')) == 1#1) e')) = _
    rw [al]
    rfl
  · show BitVec.ofNat 32 (Shape.Idx.along (s := ⟨2, ![n, 4]⟩) (ix2 i e') (1 : Fin 2) (sortedFrom (fun k k' =>
      FloatOps.cmpfTotal (F := Ideal) (φ := .f32) .gt (g (Shape.Idx.along (s := ⟨2, ![n, 4]⟩) (ix2 i e') (1 : Fin 2) k))
        (g (Shape.Idx.along (s := ⟨2, ![n, 4]⟩) (ix2 i e') (1 : Fin 2) k')) == 1#1) e') (1 : Fin 2)).val = _
    rw [al]
    rfl

open Cert.ReferenceIdeal Cert.ReferenceIdeal.Value

variable (V : Valuation τ sig (Elt Ideal))

theorem gates_at (t : Fin 512) (E : Fin 4) :
    res_main_v0 V (ix2 t E) = gAll (V (Proc.devRef .tc main_arg0)) (V (Proc.devRef .tc main_arg1)) t E := by
  unfold res_main_v0
  pointwise []
  rfl

/-- The experts by falling gate, for token `t`. -/
abbrev rank (t : Fin 512) : Fin 4 → Fin 4 := order (gAll (V (Proc.devRef .tc main_arg0)) (V (Proc.devRef .tc main_arg1)) t)

theorem values_at (t : Fin 512) (e : Fin 2) : res_main_values V (ix2 t e)
    = gAll (V (Proc.devRef .tc main_arg0)) (V (Proc.devRef .tc main_arg1)) t (rank V t (e.castLE (by decide))) := by
  unfold res_main_values
  refine (topK_at _ _ t e (e.castLE (by decide)) rfl).1.trans ?_
  simp only [gates_at]
theorem indices_at (t : Fin 512) (e : Fin 2) : res_main_indices V (ix2 t e) = BitVec.ofNat 32 (rank V t (e.castLE (by decide))).val := by
  unfold res_main_indices
  refine (topK_at _ _ t e (e.castLE (by decide)) rfl).2.trans ?_
  simp only [gates_at]

theorem neg_inf : Ideal.ofBits FTy.f32 4286578688#32 = ⊥ := by simp [Ideal.ofBits, Ideal.ieee]

/-- The indices that a reduction over two columns folds, at a row. -/
theorem row_pair (h : S512x2.ReducesTo [1] S512) (t : Fin 512) :
    (Finset.univ.filter fun i : S512x2.Idx => h.drop i = ix1 t) = {ix2 t 0, ix2 t 1} := by
  ext i
  have hv : (h.drop i 0 : Nat) = i 0 := Shape.ReducesTo.drop_apply_val h i 0
  simp only [Finset.mem_filter, Finset.mem_univ, true_and, Finset.mem_insert, Finset.mem_singleton]
  constructor
  · intro e
    rw [e] at hv
    have hi : ∀ b : Fin 2, i 1 = b → i = ix2 t b := fun b hb => funext fun a => by
      fin_cases a
      · exact Fin.ext hv.symm
      · exact hb
    have : ∀ b : Fin 2, b = 0 ∨ b = 1 := by decide
    rcases this (i 1) with hb | hb
    · exact .inl (hi 0 hb)
    · exact .inr (hi 1 hb)
  · intro e
    funext b
    have hb : b = 0 := Subsingleton.elim _ _
    subst hb
    refine Fin.ext (hv.trans ?_)
    rcases e with rfl | rfl <;> rfl

theorem ne_pair (t : Fin 512) : (ix2 t 0 : S512x2.Idx) ≠ ix2 t 1 := fun h => by
  have := congrArg Fin.val (congrFun h 1)
  exact Nat.zero_ne_one this

theorem fold_pair (h : S512x2.ReducesTo [1] S512) (t : Fin 512) (f : S512x2.Idx → EReal) :
    Finset.fold max (⊥ : EReal) f (Finset.univ.filter fun i : S512x2.Idx => h.drop i = ix1 t) = max (f (ix2 t 0)) (f (ix2 t 1)) := by
  rw [row_pair, Finset.fold_insert (by rw [Finset.mem_singleton]; exact ne_pair t), Finset.fold_singleton]
  exact congrArg (max _) (max_eq_left bot_le)

theorem soft_of (f : S512x2.Idx → EReal) (M : EReal) (t : Fin 512) (e : Fin 2) (hM : M = max (f (ix2 t 0)) (f (ix2 t 1))) :
    Ideal.div (Ideal.exp (f (ix2 t e) - M)) (∑ x : Fin 2, Ideal.exp (f (ix2 t x) - M)) = soft (f (ix2 t 0)) (f (ix2 t 1)) (f (ix2 t e)) := by
  subst hM
  rw [Fin.sum_univ_two]
  rfl

theorem v9_at (t : Fin 512) (e : Fin 2) : res_main_v9 V (ix2 t e)
    = soft (res_main_values V (ix2 t 0)) (res_main_values V (ix2 t 1)) (res_main_values V (ix2 t e)) := by
  unfold res_main_v9 res_main_v5
  pointwise []
  rw [neg_inf]
  exact soft_of (res_main_values V) _ t e (fold_pair _ t _)

/-- The reference's term of rank `r` and expert `E`. -/
def term (t j : Fin 512) (r : Fin 2) (E : Fin 4) : EReal :=
  if rank V t (r.castLE (by decide)) = E then
    fAll (V (Proc.devRef .tc main_arg0)) (V (Proc.devRef .tc main_arg2)) (V (Proc.devRef .tc main_arg3)) t j E * res_main_v9 V (ix2 t r)
  else 0

theorem word_eq (a E : Fin 4) : IntOp.cmpi CmpIPredicate.eq (BitVec.ofNat 32 a.val) (BitVec.ofNat 32 E.val) = if a = E then 1#1 else 0#1 := by
  revert a E; decide

theorem zero_at : (id (constant (F := Ideal) S_ FTy.f32 0#32) ix0 : EReal) = 0 := by
  show Ideal.ofBits FTy.f32 0#32 = 0
  simp [Ideal.ofBits, Ideal.ieee]

theorem select_at (t j : Fin 512) (r : Fin 2) (E : Fin 4) (z : EReal) (hz : z = 0) :
    Scalar.select (IntOp.cmpi CmpIPredicate.eq (res_main_indices V (ix2 t r)) (BitVec.ofNat 32 E.val))
      (fAll (V (Proc.devRef .tc main_arg0)) (V (Proc.devRef .tc main_arg2)) (V (Proc.devRef .tc main_arg3)) t j E * res_main_v9 V (ix2 t r)) z
      = term V t j r E := by
  rw [indices_at, word_eq, hz]
  unfold term
  split <;> rfl

theorem v74_at (t j : Fin 512) : res_main_v74 V (ix2 t j) = (term V t j 0 0 + term V t j 0 1 + term V t j 0 2 + term V t j 0 3 : EReal) := by
  unfold res_main_v74
  pointwise []
  exact congrArg₂ _ (congrArg₂ _ (congrArg₂ _ (select_at V t j 0 0 _ zero_at) (select_at V t j 0 1 _ zero_at)) (select_at V t j 0 2 _ zero_at))
    (select_at V t j 0 3 _ zero_at)

theorem v138_at (t j : Fin 512) : res_main_v138 V (ix2 t j) = (term V t j 0 0 + term V t j 0 1 + term V t j 0 2 + term V t j 0 3
    + term V t j 1 0 + term V t j 1 1 + term V t j 1 2 + term V t j 1 3 : EReal) := by
  unfold res_main_v138
  pointwise []
  exact congrArg₂ _ (congrArg₂ _ (congrArg₂ _ (congrArg₂ _ (v74_at V t j) (select_at V t j 1 0 _ zero_at)) (select_at V t j 1 1 _ zero_at))
    (select_at V t j 1 2 _ zero_at)) (select_at V t j 1 3 _ zero_at)

/-- The reference at an index, in the words of the whole arrays alone. -/
theorem ref_at (t j : Fin 512) (G C : Fin 4 → EReal)
    (hG : G = gAll (V (Proc.devRef .tc main_arg0)) (V (Proc.devRef .tc main_arg1)) t)
    (hC : C = fAll (V (Proc.devRef .tc main_arg0)) (V (Proc.devRef .tc main_arg2)) (V (Proc.devRef .tc main_arg3)) t j) :
    res_main_v138 V (ix2 t j) = C (order G 0) * soft (G (order G 0)) (G (order G 1)) (G (order G 0))
      + C (order G 1) * soft (G (order G 0)) (G (order G 1)) (G (order G 1)) := by
  rw [v138_at]
  unfold term
  rw [v9_at, v9_at, values_at, values_at, ← zero_add (ite (rank V t (Fin.castLE _ 0) = 0) _ _)]
  subst hG hC
  exact ranked_sum (orderPerm (gAll (V (Proc.devRef .tc main_arg0)) (V (Proc.devRef .tc main_arg1)) t)) _ _ _

end Cert.RProof

end
-- ==== Proof.PreVal.lean ====
module

public import proofs.«01_k».proof.Pre_top_two_clear_KernelIdeal
public import proofs.«01_k».proof.Proof.RefVal

@[expose] public section

set_option maxRecDepth 16384

noncomputable section

/-! What the precondition says of a row. -/

namespace Cert.RProof

open Cert.Token Idealize.ShloMosaic
open Cert.Pre_top_two_clear_KernelIdeal

theorem pos_inf : Ideal.ofBits FTy.f32 0x7F800000#32 = ⊤ := by simp [Ideal.ofBits, Ideal.ieee]

theorem both (a b : BitVec 1) : IntOp.andi a b = 1#1 ↔ a = 1#1 ∧ b = 1#1 := by
  revert a b; decide

theorem bool_iff (p : Prop) [Decidable p] : BitVec.ofBool (decide p) = 1#1 ↔ p := by
  by_cases h : p <;> simp [h]

/-- Where the precondition holds, the row's greatest gate is below infinity and its three greatest are distinct. -/
theorem pre_at [Facts] (X : FVec Ideal S256x512 .f32) (R : FVec Ideal S512x4 .f32) (a : FVec Ideal S2x512x1024 .f32)
    (b : FVec Ideal S2x1024x512 .f32) (h : fn (F := Ideal) X R a b = fun _ => 1#1) (i : Fin 256) (G : Fin 4 → EReal)
    (hG : G = fun E => gate (fun k => X (ix2 i k)) fun k => R (ix2 k E)) :
    G (order G 0) < ⊤ ∧ G (order G 1) < G (order G 0) ∧ G (order G 2) < G (order G 1) := by
  have hi := congrFun h (ix1 i)
  have hg : ∀ E : Fin 4, Host.dotGeneral dot_S256x512_S512x4_S256x4_1_0_0_1_n_n none X R (ix2 i E) = G E := fun E => by
    pointwise []
    rw [hG]
    rfl
  have ht : ∀ e : Fin 3, (Host.topK S256x3 1 (FloatOps.cmpfTotal (F := Ideal) (φ := .f32) .gt)
      (Ideal.matmul dot_S256x512_S512x4_S256x4_1_0_0_1_n_n X R fun _ => (0 : EReal)) Facts.sliceFits_S256x4_S256x3).1 (ix2 i e) = G (order G (e.castLE (by decide))) := fun e => by
    refine (topK_at (Host.dotGeneral dot_S256x512_S512x4_S256x4_1_0_0_1_n_n none X R) _ i e (e.castLE (by decide)) rfl).1.trans ?_
    simp only [hg]
  revert hi
  unfold fn
  pointwise []
  rw [ht 0, ht 1, ht 2, pos_inf, both, both, bool_iff, bool_iff, bool_iff]
  exact fun h => ⟨h.1.1, h.1.2, h.2⟩

end Cert.RProof

end
-- ==== Proof.Value.lean ====
module

public import proofs.«01_k».proof.Defs
public import proofs.«01_k».proof.Proof.Frames
public import proofs.«01_k».proof.Proof.KOut
public import proofs.«01_k».proof.Proof.PreVal

@[expose] public section

set_option maxRecDepth 16384

noncomputable section

/-! The kernel's result is the reference's. -/

namespace Cert.KProof

open Cert.Token
open Idealize.ShloMosaic Idealize.ShloMosaic.TcCoe

section
open Cert.KernelIdeal

variable {m : (ℓ : Loc nD τ sig) → Buf (Elt Ideal) ℓ}
variable {X : (⟨2, ![512, 512]⟩ : Shape).Idx → EReal} {R : (⟨2, ![512, 4]⟩ : Shape).Idx → EReal}
variable {A1 : (⟨3, ![4, 512, 1024]⟩ : Shape).Idx → EReal} {A2 : (⟨3, ![4, 1024, 512]⟩ : Shape).Idx → EReal}

/-- Where a block's row lies in the whole array. -/
theorem block_rows (c : Dev nD) (i : Fin 256) (k : Fin 512) (v : (⟨2, ![512, 512]⟩ : Shape).Idx → EReal) :
    (Layout.blockN ⟨2, ![256, 512]⟩ ⟨2, ![512, 512]⟩ (Layout.meshBlock [2, 2] ![[0], []] c) v) (ix2 i k) = v (ix2 (tok c i) k) := by
  refine congrArg v (funext fun a => Fin.ext ?_)
  fin_cases c <;> fin_cases a <;> (show Nat.add _ _ = _; simp [ix2]) <;> rfl

/-- Where a block's expert lies in the whole array. -/
theorem block_experts {p q : ℕ} (c : Dev nD) (e : Fin 2) (k : Fin p) (h : Fin q) (v : (⟨3, ![4, p, q]⟩ : Shape).Idx → EReal)
    (ht : Layout.TilesN ⟨3, ![2, p, q]⟩ ⟨3, ![4, p, q]⟩ fun b => Layout.cutSize [2, 2] (![[0], [], []] b)) :
    Layout.blockN ⟨3, ![2, p, q]⟩ ⟨3, ![4, p, q]⟩ (Layout.meshBlock [2, 2] ![[0], [], []] c) v ht (ix3 e k h) = v (ix3 (expt c e) k h) := by
  refine congrArg v (funext fun a => Fin.ext ?_)
  fin_cases c <;> fin_cases a <;> (show Nat.add _ _ = _; simp [ix3]) <;> first | rfl | exact .inl rfl

/-- The claim's layout, by coordinates. -/
theorem laid (h : ∀ c : Dev nD,
      m ((c.tc : Thread nD τ).loc main_arg0) = Layout.blockN ⟨2, ![256, 512]⟩ ⟨2, ![512, 512]⟩ (Layout.meshBlock [2, 2] ![[0], []] c) X
      ∧ m ((c.tc : Thread nD τ).loc main_arg1) = R
      ∧ m ((c.tc : Thread nD τ).loc main_arg2) = Layout.blockN ⟨3, ![2, 512, 1024]⟩ ⟨3, ![4, 512, 1024]⟩ (Layout.meshBlock [2, 2] ![[0], [], []] c) A1
      ∧ m ((c.tc : Thread nD τ).loc main_arg3) = Layout.blockN ⟨3, ![2, 1024, 512]⟩ ⟨3, ![4, 1024, 512]⟩ (Layout.meshBlock [2, 2] ![[0], [], []] c) A2) :
    Laid m X R A1 A2 where
  x c i k := (congrFun (h c).1 _).trans (block_rows c i k X)
  r c := (h c).2.1
  w1 c e k l := (congrFun (h c).2.2.1 _).trans (block_experts c e k l A1 _)
  w2 c e k l := (congrFun (h c).2.2.2 _).trans (block_experts c e k l A2 _)

/-- A device's result block, where the precondition holds of its rows, as the weighted sum over a token's two greatest gates. -/
theorem out_ranked [Cert.Pre_top_two_clear_KernelIdeal.Facts] (L : Laid m X R A1 A2) (hp : Cert.Pre_KernelIdeal_top_two_clear_KernelIdeal m)
    (c : Dev nD) (i : Fin 256) (j : Fin 512) (G C : Fin 4 → EReal) (hG : G = gAll X R (tok c i)) (hC : C = fAll X A1 A2 (tok c i) j) :
    outAt m c (ix2 i j) = C (order G 0) * soft (G (order G 0)) (G (order G 1)) (G (order G 0))
      + C (order G 1) * soft (G (order G 0)) (G (order G 1)) (G (order G 1)) := by
  have hg : G = fun E => gate (fun k => m ((c : Thread nD τ).loc main_arg0) (ix2 i k)) fun k => m ((c : Thread nD τ).loc main_arg1) (ix2 k E) := by
    rw [hG, L.r c]
    simp only [L.x]
    rfl
  obtain ⟨ht, h01, h12⟩ := Cert.RProof.pre_at _ _ _ _ (hp c) i G hg
  rw [out_whole L]
  subst hG hC
  exact weighted_sum _ (orderPerm (gAll X R (tok c i))) h01 h12 (order_antitone _ 2 3 (by decide)) ht _

end

/-- Every device's result block is its block of the reference's result. -/
theorem algebraic : Cert.algebraic_KernelIdeal_ReferenceIdeal_pre_top_two_clear_KernelIdeal := by
  intro m g m' g' hp hb
  refine ⟨Cert.ReferenceIdeal.Value.res_main_v138 (StableHlo.launchContents m' 0), ?_, ?_⟩
  · refine (θ_run Cert.KernelIdeal.defs _ _).mono (fun r h c => ?_) (run_main (F := Ideal) m g)
    refine ⟨(h.1 c).1.trans ?_, (h.1 c).2⟩
    funext ij
    obtain ⟨i, j, rfl⟩ : ∃ (i : Fin 256) (j : Fin 512), ij = ix2 i j := ⟨ij 0, ij 1, funext fun a => by fin_cases a <;> rfl⟩
    exact (out_ranked (laid hb) hp c i j _ _ rfl rfl).trans
      ((Cert.RProof.ref_at (StableHlo.launchContents m' 0) (tok c i) j _ _ rfl rfl).symm.trans (block_rows c i j _).symm)
  · refine (θ_run Cert.ReferenceIdeal.defs _ _).mono (fun r h => ?_) (Cert.ReferenceIdeal.Value.run (F := Ideal) m' g')
    exact h 0

end Cert.KProof

end
-- ==== Proof.lean ====
module

public import proofs.«01_k».proof.Defs
public import proofs.«01_k».proof.Proof.Frames
public import proofs.«01_k».proof.Proof.Value
public import proofs.«01_k».proof.Proof.Gen.ReferenceIdeal.Run
public import proofs.«01_k».proof.Proof.Gen.Pre_top_two_clear_KernelIdeal
public import proofs.«01_k».proof.Proof.Gen.Pre_top_two_clear_ReferenceIdeal

@[expose] public section

noncomputable section

namespace Cert.Proof

open Idealize.ShloMosaic Idealize.ShloMosaic.StableHlo

/-- The reference runs on the host alone: it completes and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_top_two_clear_ReferenceIdeal := fun m ρ _ => frame_reference m ρ trivial

theorem mask_preserved : Cert.preserves_Kernel_KernelIdeal := IdealRules.named_const.statement _ _ _ _ _ rfl

theorem claim : Cert.Claim :=
  ⟨Cert.Kernel.Gen.facts, Cert.KernelIdeal.Gen.facts, Cert.ReferenceIdeal.Gen.facts, Cert.Pre_top_two_clear_KernelIdeal.Gen.facts,
    Cert.Pre_top_two_clear_ReferenceIdeal.Gen.facts, Cert.KProof.frame_kernel, Cert.KProof.frame_ideal, Cert.KProof.frame_ideal_pre,
    frame_reference, frame_reference_pre, mask_preserved, Cert.KProof.algebraic⟩

end Cert.Proof

end
